-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_ids_and_tables [hPre_ids_and_tables : Cert.Pre_ids_and_tables.Facts] (m : (ℓ : Loc Cert.QkvIdeal.nD Cert.QkvIdeal.τ Cert.QkvIdeal.sig) → Buf (Elt Ideal) ℓ) : Prop :=
  ∀ c : Dev Cert.QkvIdeal.nD,
    (Cert.Pre_ids_and_tables.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).1 = (fun _ => 1#1)
    ∧ (Cert.Pre_ids_and_tables.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.1 = (fun _ => 1#1)
    ∧ (Cert.Pre_ids_and_tables.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.1 = (fun _ => 1#1)
    ∧ (Cert.Pre_ids_and_tables.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2 = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_ids_and_tables [hPre_ids_and_tables : Cert.Pre_ids_and_tables.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_ids_and_tables.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).1 = (fun _ => 1#1)
    ∧ (Cert.Pre_ids_and_tables.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.1 = (fun _ => 1#1)
    ∧ (Cert.Pre_ids_and_tables.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.2.1 = (fun _ => 1#1)
    ∧ (Cert.Pre_ids_and_tables.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))).2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvIdeal_pre_ids_and_tables [hQkvIdeal : Cert.QkvIdeal.Facts] [hPre_ids_and_tables : Cert.Pre_ids_and_tables.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_ids_and_tables m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_QkvRefIdeal_pre_ids_and_tables [hQkvRefIdeal : Cert.QkvRefIdeal.Facts] [hPre_ids_and_tables : Cert.Pre_ids_and_tables.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_ids_and_tables m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v1_0)) (v1 : (c : Dev Cert.MlpIdeal.nD) → Buf (Elt Ideal) ((c.tc : Thread Cert.MlpIdeal.nD Cert.MlpIdeal.τ).loc Cert.MlpIdeal.main_v1_1)) (v2 : (c : Dev Cert.MlpIdeal.nD) → Buf (Elt Ideal) ((c.tc : Thread Cert.MlpIdeal.nD Cert.MlpIdeal.τ).loc Cert.MlpIdeal.main_v1_2)) (v3 : (c : Dev Cert.MlpIdeal.nD) → Buf (Elt Ideal) ((c.tc : Thread Cert.MlpIdeal.nD Cert.MlpIdeal.τ).loc Cert.MlpIdeal.main_v1_3)) (v4 : (c : Dev Cert.MlpIdeal.nD) → Buf (Elt Ideal) ((c.tc : Thread Cert.MlpIdeal.nD Cert.MlpIdeal.τ).loc Cert.MlpIdeal.main_v1_4)) (v5 : (c : Dev Cert.MlpIdeal.nD) → Buf (Elt Ideal) ((c.tc : Thread Cert.MlpIdeal.nD Cert.MlpIdeal.τ).loc Cert.MlpIdeal.main_v1_5)) (v6 : (c : Dev Cert.MlpIdeal.nD) → Buf (Elt Ideal) ((c.tc : Thread Cert.MlpIdeal.nD Cert.MlpIdeal.τ).loc Cert.MlpIdeal.main_v1_6)) (v7 : (c : Dev Cert.MlpIdeal.nD) → Buf (Elt Ideal) ((c.tc : Thread Cert.MlpIdeal.nD Cert.MlpIdeal.τ).loc Cert.MlpIdeal.main_v1_7)) (v8 : (c : Dev Cert.MlpIdeal.nD) → Buf (Elt Ideal) ((c.tc : Thread Cert.MlpIdeal.nD Cert.MlpIdeal.τ).loc Cert.MlpIdeal.main_v1_8)) (v9 : (c : Dev Cert.MlpIdeal.nD) → Buf (Elt Ideal) ((c.tc : Thread Cert.MlpIdeal.nD Cert.MlpIdeal.τ).loc Cert.MlpIdeal.main_v1_9)) (v10 : (c : Dev Cert.MlpIdeal.nD) → Buf (Elt Ideal) ((c.tc : Thread Cert.MlpIdeal.nD Cert.MlpIdeal.τ).loc Cert.MlpIdeal.main_v1_10)) (v11 : (c : Dev Cert.MlpIdeal.nD) → Buf (Elt Ideal) ((c.tc : Thread Cert.MlpIdeal.nD Cert.MlpIdeal.τ).loc Cert.MlpIdeal.main_v1_11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1_0) = v0 c
          ∧ r.2.mem ((c.tc : Thread Cert.MlpIdeal.nD Cert.MlpIdeal.τ).loc Cert.MlpIdeal.main_v1_1) = v1 c
          ∧ r.2.mem ((c.tc : Thread Cert.MlpIdeal.nD Cert.MlpIdeal.τ).loc Cert.MlpIdeal.main_v1_2) = v2 c
          ∧ r.2.mem ((c.tc : Thread Cert.MlpIdeal.nD Cert.MlpIdeal.τ).loc Cert.MlpIdeal.main_v1_3) = v3 c
          ∧ r.2.mem ((c.tc : Thread Cert.MlpIdeal.nD Cert.MlpIdeal.τ).loc Cert.MlpIdeal.main_v1_4) = v4 c
          ∧ r.2.mem ((c.tc : Thread Cert.MlpIdeal.nD Cert.MlpIdeal.τ).loc Cert.MlpIdeal.main_v1_5) = v5 c
          ∧ r.2.mem ((c.tc : Thread Cert.MlpIdeal.nD Cert.MlpIdeal.τ).loc Cert.MlpIdeal.main_v1_6) = v6 c
          ∧ r.2.mem ((c.tc : Thread Cert.MlpIdeal.nD Cert.MlpIdeal.τ).loc Cert.MlpIdeal.main_v1_7) = v7 c
          ∧ r.2.mem ((c.tc : Thread Cert.MlpIdeal.nD Cert.MlpIdeal.τ).loc Cert.MlpIdeal.main_v1_8) = v8 c
          ∧ r.2.mem ((c.tc : Thread Cert.MlpIdeal.nD Cert.MlpIdeal.τ).loc Cert.MlpIdeal.main_v1_9) = v9 c
          ∧ r.2.mem ((c.tc : Thread Cert.MlpIdeal.nD Cert.MlpIdeal.τ).loc Cert.MlpIdeal.main_v1_10) = v10 c
          ∧ r.2.mem ((c.tc : Thread Cert.MlpIdeal.nD Cert.MlpIdeal.τ).loc Cert.MlpIdeal.main_v1_11) = v11 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v118) = v0 c
          ∧ r.2.mem ((c.tc : Thread Cert.MlpRefIdeal.nD Cert.MlpRefIdeal.τ).loc Cert.MlpRefIdeal.main_v119) = v1 c
          ∧ r.2.mem ((c.tc : Thread Cert.MlpRefIdeal.nD Cert.MlpRefIdeal.τ).loc Cert.MlpRefIdeal.main_v13) = v2 c
          ∧ r.2.mem ((c.tc : Thread Cert.MlpRefIdeal.nD Cert.MlpRefIdeal.τ).loc Cert.MlpRefIdeal.main_v52) = v3 c
          ∧ r.2.mem ((c.tc : Thread Cert.MlpRefIdeal.nD Cert.MlpRefIdeal.τ).loc Cert.MlpRefIdeal.main_v81) = v4 c
          ∧ r.2.mem ((c.tc : Thread Cert.MlpRefIdeal.nD Cert.MlpRefIdeal.τ).loc Cert.MlpRefIdeal.main_v107) = v5 c
          ∧ r.2.mem ((c.tc : Thread Cert.MlpRefIdeal.nD Cert.MlpRefIdeal.τ).loc Cert.MlpRefIdeal.main_v139) = v6 c
          ∧ r.2.mem ((c.tc : Thread Cert.MlpRefIdeal.nD Cert.MlpRefIdeal.τ).loc Cert.MlpRefIdeal.main_v141) = v7 c
          ∧ r.2.mem ((c.tc : Thread Cert.MlpRefIdeal.nD Cert.MlpRefIdeal.τ).loc Cert.MlpRefIdeal.main_v143) = v8 c
          ∧ r.2.mem ((c.tc : Thread Cert.MlpRefIdeal.nD Cert.MlpRefIdeal.τ).loc Cert.MlpRefIdeal.main_v145) = v9 c
          ∧ r.2.mem ((c.tc : Thread Cert.MlpRefIdeal.nD Cert.MlpRefIdeal.τ).loc Cert.MlpRefIdeal.main_v147) = v10 c
          ∧ r.2.mem ((c.tc : Thread Cert.MlpRefIdeal.nD Cert.MlpRefIdeal.τ).loc Cert.MlpRefIdeal.main_v149) = v11 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v36) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Qkv_QkvIdeal : Prop :=
  True

def algebraic_QkvIdeal_QkvRefIdeal_on_step_arrays_pre_ids_and_tables [hQkvIdeal : Cert.QkvIdeal.Facts] [hQkvRefIdeal : Cert.QkvRefIdeal.Facts] [hPre_ids_and_tables : Cert.Pre_ids_and_tables.Facts] [hOn_step_arrays : Cert.On_step_arrays.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_ids_and_tables m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)) (v4 : (c : Dev Cert.QkvIdeal.nD) → Buf (Elt Ideal) ((c.tc : Thread Cert.QkvIdeal.nD Cert.QkvIdeal.τ).loc Cert.QkvIdeal.main_v1_4)) (v5 : (c : Dev Cert.QkvIdeal.nD) → Buf (Elt Ideal) ((c.tc : Thread Cert.QkvIdeal.nD Cert.QkvIdeal.τ).loc Cert.QkvIdeal.main_v1_5)) (v6 : (c : Dev Cert.QkvIdeal.nD) → Buf (Elt Ideal) ((c.tc : Thread Cert.QkvIdeal.nD Cert.QkvIdeal.τ).loc Cert.QkvIdeal.main_v1_6)) (v7 : (c : Dev Cert.QkvIdeal.nD) → Buf (Elt Ideal) ((c.tc : Thread Cert.QkvIdeal.nD Cert.QkvIdeal.τ).loc Cert.QkvIdeal.main_v1_7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).1 i = 1#1 → r.2.mem ((c.tc : Thread Cert.QkvIdeal.nD Cert.QkvIdeal.τ).loc Cert.QkvIdeal.main_v1_0) i = v0 c i)
          ∧ (∀ i : (⟨3, ![31, 40, 3072]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.1 i = 1#1 → r.2.mem ((c.tc : Thread Cert.QkvIdeal.nD Cert.QkvIdeal.τ).loc Cert.QkvIdeal.main_v1_1) i = v1 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.1 i = 1#1 → r.2.mem ((c.tc : Thread Cert.QkvIdeal.nD Cert.QkvIdeal.τ).loc Cert.QkvIdeal.main_v1_2) i = v2 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.1 i = 1#1 → r.2.mem ((c.tc : Thread Cert.QkvIdeal.nD Cert.QkvIdeal.τ).loc Cert.QkvIdeal.main_v1_3) i = v3 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.1 i = 1#1 → r.2.mem ((c.tc : Thread Cert.QkvIdeal.nD Cert.QkvIdeal.τ).loc Cert.QkvIdeal.main_v1_4) i = v4 c i)
          ∧ (∀ i : (⟨2, ![40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.1 i = 1#1 → r.2.mem ((c.tc : Thread Cert.QkvIdeal.nD Cert.QkvIdeal.τ).loc Cert.QkvIdeal.main_v1_5) i = v5 c i)
          ∧ (∀ i : (⟨3, ![8, 40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.2.1 i = 1#1 → r.2.mem ((c.tc : Thread Cert.QkvIdeal.nD Cert.QkvIdeal.τ).loc Cert.QkvIdeal.main_v1_6) i = v6 c i)
          ∧ (∀ i : (⟨3, ![8, 40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.2.2 i = 1#1 → r.2.mem ((c.tc : Thread Cert.QkvIdeal.nD Cert.QkvIdeal.τ).loc Cert.QkvIdeal.main_v1_7) i = v7 c i)
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).1 i = 1#1 → r.2.mem ((c.tc : Thread Cert.QkvRefIdeal.nD Cert.QkvRefIdeal.τ).loc Cert.QkvRefIdeal.main_v53) i = v0 c i)
          ∧ (∀ i : (⟨3, ![31, 40, 3072]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.1 i = 1#1 → r.2.mem ((c.tc : Thread Cert.QkvRefIdeal.nD Cert.QkvRefIdeal.τ).loc Cert.QkvRefIdeal.main_v91) i = v1 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.1 i = 1#1 → r.2.mem ((c.tc : Thread Cert.QkvRefIdeal.nD Cert.QkvRefIdeal.τ).loc Cert.QkvRefIdeal.main_v80) i = v2 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.1 i = 1#1 → r.2.mem ((c.tc : Thread Cert.QkvRefIdeal.nD Cert.QkvRefIdeal.τ).loc Cert.QkvRefIdeal.main_v125) i = v3 c i)
          ∧ (∀ i : (⟨3, ![31, 40, 1024]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.1 i = 1#1 → r.2.mem ((c.tc : Thread Cert.QkvRefIdeal.nD Cert.QkvRefIdeal.τ).loc Cert.QkvRefIdeal.main_v126) i = v4 c i)
          ∧ (∀ i : (⟨2, ![40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.1 i = 1#1 → r.2.mem ((c.tc : Thread Cert.QkvRefIdeal.nD Cert.QkvRefIdeal.τ).loc Cert.QkvRefIdeal.main_v128) i = v5 c i)
          ∧ (∀ i : (⟨3, ![8, 40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.2.1 i = 1#1 → r.2.mem ((c.tc : Thread Cert.QkvRefIdeal.nD Cert.QkvRefIdeal.τ).loc Cert.QkvRefIdeal.main_v131) i = v6 c i)
          ∧ (∀ i : (⟨3, ![8, 40, 128]⟩ : Shape).Idx, (Cert.On_step_arrays.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))).2.2.2.2.2.2.2 i = 1#1 → r.2.mem ((c.tc : Thread Cert.QkvRefIdeal.nD Cert.QkvRefIdeal.τ).loc Cert.QkvRefIdeal.main_v134) i = v7 c i)
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def Claim : Prop :=
  ∃ (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hPre_ids_and_tables : Cert.Pre_ids_and_tables.Facts) (hOn_step_arrays : Cert.On_step_arrays.Facts),
    quiescent_Mlp (hMlp := hMlp)
    ∧ quiescent_MlpIdeal (hMlpIdeal := hMlpIdeal)
    ∧ quiescent_MlpRefIdeal (hMlpRefIdeal := hMlpRefIdeal)
    ∧ quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvIdeal_pre_ids_and_tables (hQkvIdeal := hQkvIdeal) (hPre_ids_and_tables := hPre_ids_and_tables)
    ∧ quiescent_QkvRefIdeal (hQkvRefIdeal := hQkvRefIdeal)
    ∧ quiescent_QkvRefIdeal_pre_ids_and_tables (hQkvRefIdeal := hQkvRefIdeal) (hPre_ids_and_tables := hPre_ids_and_tables)
    ∧ preserves_Mlp_MlpIdeal
    ∧ algebraic_MlpIdeal_MlpRefIdeal (hMlpIdeal := hMlpIdeal) (hMlpRefIdeal := hMlpRefIdeal)
    ∧ preserves_Attn_AttnIdeal
    ∧ algebraic_AttnIdeal_AttnRefIdeal (hAttnIdeal := hAttnIdeal) (hAttnRefIdeal := hAttnRefIdeal)
    ∧ preserves_Qkv_QkvIdeal
    ∧ algebraic_QkvIdeal_QkvRefIdeal_on_step_arrays_pre_ids_and_tables (hQkvIdeal := hQkvIdeal) (hQkvRefIdeal := hQkvRefIdeal) (hPre_ids_and_tables := hPre_ids_and_tables) (hOn_step_arrays := hOn_step_arrays)
-- ==== On_step_arrays.lean ====
abbrev S40x31 : Shape := ⟨2, ![40, 31]⟩
abbrev S40x1024 : Shape := ⟨2, ![40, 1024]⟩
abbrev S40x3072 : Shape := ⟨2, ![40, 3072]⟩
abbrev S40x1 : Shape := ⟨2, ![40, 1]⟩
abbrev S31x3072x1024 : Shape := ⟨3, ![31, 3072, 1024]⟩
abbrev S31x1024 : Shape := ⟨2, ![31, 1024]⟩
abbrev S30x2051x128 : Shape := ⟨3, ![30, 2051, 128]⟩
abbrev S30x2051 : Shape := ⟨2, ![30, 2051]⟩
abbrev S30x128x1024 : Shape := ⟨3, ![30, 128, 1024]⟩
abbrev S31x1024x3072 : Shape := ⟨3, ![31, 1024, 3072]⟩
abbrev S31x3072 : Shape := ⟨2, ![31, 3072]⟩
abbrev S1024 : Shape := ⟨1, ![1024]⟩
abbrev S_ : Shape := ⟨0, ![]⟩
abbrev S31x40x1024 : Shape := ⟨3, ![31, 40, 1024]⟩
abbrev S31x40x3072 : Shape := ⟨3, ![31, 40, 3072]⟩
abbrev S40x128 : Shape := ⟨2, ![40, 128]⟩
abbrev S8x40x128 : Shape := ⟨3, ![8, 40, 128]⟩

class Facts : Prop where
  bcast_S_S31x40x1024 : S_.BroadcastsInDim S31x40x1024 (![] : Fin 0 → Fin S31x40x1024.rank)
  bcast_S_S31x40x3072 : S_.BroadcastsInDim S31x40x3072 (![] : Fin 0 → Fin S31x40x3072.rank)
  bcast_S_S40x128 : S_.BroadcastsInDim S40x128 (![] : Fin 0 → Fin S40x128.rank)
  bcast_S_S8x40x128 : S_.BroadcastsInDim S8x40x128 (![] : Fin 0 → Fin S8x40x128.rank)

variable [Facts]

def fn {F : FTy → Type} [FloatOps F] (main_arg0 : IVec S40x31 32) (main_arg1 : FVec F S40x1024 .f32) (main_arg2 : IVec S40x3072 8) (main_arg3 : FVec F S40x1 .f32) (main_arg4 : IVec S31x3072x1024 8) (main_arg5 : FVec F S31x1024 .f32) (main_arg6 : IVec S30x2051x128 8) (main_arg7 : FVec F S30x2051 .f32) (main_arg8 : FVec F S30x128x1024 .f32) (main_arg9 : IVec S31x1024x3072 8) (main_arg10 : FVec F S31x3072 .f32) (main_arg11 : FVec F S1024 .f32) : IVec S31x40x1024 1 × IVec S31x40x3072 1 × IVec S31x40x1024 1 × IVec S31x40x1024 1 × IVec S31x40x1024 1 × IVec S40x128 1 × IVec S8x40x128 1 × IVec S8x40x128 1 :=
  let main_c : IVec S_ 1 := constantI S_ 1 1#1
  let main_v0 : IVec S31x40x1024 1 := broadcastInDim S31x40x1024 ![] bcast_S_S31x40x1024 main_c
  let main_c_0 : IVec S_ 1 := constantI S_ 1 1#1
  let main_v1 : IVec S31x40x3072 1 := broadcastInDim S31x40x3072 ![] bcast_S_S31x40x3072 main_c_0
  let main_c_1 : IVec S_ 1 := constantI S_ 1 1#1
  let main_v2 : IVec S31x40x1024 1 := broadcastInDim S31x40x1024 ![] bcast_S_S31x40x1024 main_c_1
  let main_c_2 : IVec S_ 1 := constantI S_ 1 0#1
  let main_v3 : IVec S31x40x1024 1 := broadcastInDim S31x40x1024 ![] bcast_S_S31x40x1024 main_c_2
  let main_c_3 : IVec S_ 1 := constantI S_ 1 0#1
  let main_v4 : IVec S31x40x1024 1 := broadcastInDim S31x40x1024 ![] bcast_S_S31x40x1024 main_c_3
  let main_c_4 : IVec S_ 1 := constantI S_ 1 0#1
  let main_v5 : IVec S40x128 1 := broadcastInDim S40x128 ![] bcast_S_S40x128 main_c_4
  let main_c_5 : IVec S_ 1 := constantI S_ 1 0#1
  let main_v6 : IVec S8x40x128 1 := broadcastInDim S8x40x128 ![] bcast_S_S8x40x128 main_c_5
  let main_c_6 : IVec S_ 1 := constantI S_ 1 0#1
  let main_v7 : IVec S8x40x128 1 := broadcastInDim S8x40x128 ![] bcast_S_S8x40x128 main_c_6
  (main_v0, main_v1, main_v2, main_v3, main_v4, main_v5, main_v6, main_v7)
-- ==== Pre_ids_and_tables.lean ====
abbrev S40x31 : Shape := ⟨2, ![40, 31]⟩
abbrev S40x1024 : Shape := ⟨2, ![40, 1024]⟩
abbrev S40x3072 : Shape := ⟨2, ![40, 3072]⟩
abbrev S40x1 : Shape := ⟨2, ![40, 1]⟩
abbrev S31x3072x1024 : Shape := ⟨3, ![31, 3072, 1024]⟩
abbrev S31x1024 : Shape := ⟨2, ![31, 1024]⟩
abbrev S30x2051x128 : Shape := ⟨3, ![30, 2051, 128]⟩
abbrev S30x2051 : Shape := ⟨2, ![30, 2051]⟩
abbrev S30x128x1024 : Shape := ⟨3, ![30, 128, 1024]⟩
abbrev S31x1024x3072 : Shape := ⟨3, ![31, 1024, 3072]⟩
abbrev S31x3072 : Shape := ⟨2, ![31, 3072]⟩
abbrev S1024 : Shape := ⟨1, ![1024]⟩
abbrev S_ : Shape := ⟨0, ![]⟩

class Facts : Prop where
  bcast_S_S40x31 : S_.BroadcastsInDim S40x31 (![] : Fin 0 → Fin S40x31.rank)
  bcast_S_S30x2051 : S_.BroadcastsInDim S30x2051 (![] : Fin 0 → Fin S30x2051.rank)
  bcast_S_S30x128x1024 : S_.BroadcastsInDim S30x128x1024 (![] : Fin 0 → Fin S30x128x1024.rank)

variable [Facts]

def fn {F : FTy → Type} [FloatOps F] (main_arg0 : IVec S40x31 32) (main_arg1 : FVec F S40x1024 .f32) (main_arg2 : IVec S40x3072 8) (main_arg3 : FVec F S40x1 .f32) (main_arg4 : IVec S31x3072x1024 8) (main_arg5 : FVec F S31x1024 .f32) (main_arg6 : IVec S30x2051x128 8) (main_arg7 : FVec F S30x2051 .f32) (main_arg8 : FVec F S30x128x1024 .f32) (main_arg9 : IVec S31x1024x3072 8) (main_arg10 : FVec F S31x3072 .f32) (main_arg11 : FVec F S1024 .f32) : IVec S40x31 1 × IVec S40x31 1 × IVec S30x2051 1 × IVec S30x128x1024 1 :=
  let main_c : IVec S_ 32 := constantI S_ 32 0#32
  let main_v0 : IVec S40x31 32 := broadcastInDim S40x31 ![] bcast_S_S40x31 main_c
  let main_v1 : IVec S40x31 1 := cmpi .sge main_arg0 main_v0
  let main_c_0 : IVec S_ 32 := constantI S_ 32 2051#32
  let main_v2 : IVec S40x31 32 := broadcastInDim S40x31 ![] bcast_S_S40x31 main_c_0
  let main_v3 : IVec S40x31 1 := cmpi .slt main_arg0 main_v2
  let main_v4 : FVec F S30x2051 .f32 := Host.absf main_arg7
  let main_cst : FVec F S_ .f32 := constant S_ .f32 0x7F800000#32
  let main_v5 : FVec F S30x2051 .f32 := broadcastInDim S30x2051 ![] bcast_S_S30x2051 main_cst
  let main_v6 : IVec S30x2051 1 := cmpf .olt main_v4 main_v5
  let main_v7 : FVec F S30x128x1024 .f32 := Host.absf main_arg8
  let main_cst_1 : FVec F S_ .f32 := constant S_ .f32 0x7F800000#32
  let main_v8 : FVec F S30x128x1024 .f32 := broadcastInDim S30x128x1024 ![] bcast_S_S30x128x1024 main_cst_1
  let main_v9 : IVec S30x128x1024 1 := cmpf .olt main_v7 main_v8
  (main_v1, main_v3, main_v6, main_v9)
-- ==== Mlp.lean ====
abbrev S40x31 : Shape := ⟨2, ![40, 31]⟩
abbrev S31x40x1024 : Shape := ⟨3, ![31, 40, 1024]⟩
abbrev S31x1024x1024 : Shape := ⟨3, ![31, 1024, 1024]⟩
abbrev S31x1024 : Shape := ⟨2, ![31, 1024]⟩
abbrev S1024 : Shape := ⟨1, ![1024]⟩
abbrev S31x1024x8192 : Shape := ⟨3, ![31, 1024, 8192]⟩
abbrev S31x8192 : Shape := ⟨2, ![31, 8192]⟩
abbrev S31x4096x1024 : Shape := ⟨3, ![31, 4096, 1024]⟩
abbrev S31x1024x2051 : Shape := ⟨3, ![31, 1024, 2051]⟩
abbrev S31x2051 : Shape := ⟨2, ![31, 2051]⟩
abbrev S1x1024 : Shape := ⟨2, ![1, 1024]⟩
abbrev S31x40x2051 : Shape := ⟨3, ![31, 40, 2051]⟩
abbrev S31x40x4096 : Shape := ⟨3, ![31, 40, 4096]⟩
abbrev S40x128 : Shape := ⟨2, ![40, 128]⟩
abbrev S1x40x1024 : Shape := ⟨3, ![1, 40, 1024]⟩
abbrev S1x1024x1024 : Shape := ⟨3, ![1, 1024, 1024]⟩
abbrev S1x1024x8192 : Shape := ⟨3, ![1, 1024, 8192]⟩
abbrev S1x4096x1024 : Shape := ⟨3, ![1, 4096, 1024]⟩
abbrev S1x1024x2051 : Shape := ⟨3, ![1, 1024, 2051]⟩
abbrev S1x40x2051 : Shape := ⟨3, ![1, 40, 2051]⟩
abbrev S1x40x4096 : Shape := ⟨3, ![1, 40, 4096]⟩
abbrev S40x4096 : Shape := ⟨2, ![40, 4096]⟩
abbrev S40x1024 : Shape := ⟨2, ![40, 1024]⟩
abbrev S40 : Shape := ⟨1, ![40]⟩
abbrev S40x1 : Shape := ⟨2, ![40, 1]⟩
abbrev S1024x1024 : Shape := ⟨2, ![1024, 1024]⟩
abbrev S4096x1024 : Shape := ⟨2, ![4096, 1024]⟩
abbrev S1024x2051 : Shape := ⟨2, ![1024, 2051]⟩
abbrev S40x2051 : Shape := ⟨2, ![40, 2051]⟩
abbrev S1x2051 : Shape := ⟨2, ![1, 2051]⟩

abbrev nBuf : Space → Nat
  | .hbm => 25
  | .vmem => 37
  | .smem => 0
  | _ => 0

abbrev bufTy : (tb : Table) → Fin (tcTables nBuf tb) → BufTy
  | .hbm, ⟨0, _⟩ => ⟨S40x31, .i32⟩
  | .hbm, ⟨1, _⟩ => ⟨S31x40x1024, .f32⟩
  | .hbm, ⟨2, _⟩ => ⟨S31x40x1024, .f32⟩
  | .hbm, ⟨3, _⟩ => ⟨S31x1024x1024, .i8⟩
  | .hbm, ⟨4, _⟩ => ⟨S31x1024, .f32⟩
  | .hbm, ⟨5, _⟩ => ⟨S1024, .f32⟩
  | .hbm, ⟨6, _⟩ => ⟨S31x1024x8192, .i8⟩
  | .hbm, ⟨7, _⟩ => ⟨S31x8192, .f32⟩
  | .hbm, ⟨8, _⟩ => ⟨S31x4096x1024, .i8⟩
  | .hbm, ⟨9, _⟩ => ⟨S31x1024, .f32⟩
  | .hbm, ⟨10, _⟩ => ⟨S31x1024x2051, .i8⟩
  | .hbm, ⟨11, _⟩ => ⟨S31x2051, .f32⟩
  | .hbm, ⟨12, _⟩ => ⟨S1x1024, .f32⟩
  | .hbm, ⟨13, _⟩ => ⟨S31x40x2051, .f32⟩
  | .hbm, ⟨14, _⟩ => ⟨S31x40x1024, .bf16⟩
  | .hbm, ⟨15, _⟩ => ⟨S31x40x1024, .i8⟩
  | .hbm, ⟨16, _⟩ => ⟨S31x40x1024, .i8⟩
  | .hbm, ⟨17, _⟩ => ⟨S31x40x4096, .i8⟩
  | .hbm, ⟨18, _⟩ => ⟨S31x40x1024, .i8⟩
  | .hbm, ⟨19, _⟩ => ⟨S40x128, .f32⟩
  | .hbm, ⟨20, _⟩ => ⟨S40x128, .f32⟩
  | .hbm, ⟨21, _⟩ => ⟨S40x128, .f32⟩
  | .hbm, ⟨22, _⟩ => ⟨S40x128, .f32⟩
  | .hbm, ⟨23, _⟩ => ⟨S40x128, .f32⟩
  | .hbm, ⟨24, _⟩ => ⟨S40x128, .f32⟩
  | .local _ .vmem, ⟨0, _⟩ => ⟨S40x31, .i32⟩
  | .local _ .vmem, ⟨1, _⟩ => ⟨S1x40x1024, .f32⟩
  | .local _ .vmem, ⟨2, _⟩ => ⟨S1x40x1024, .f32⟩
  | .local _ .vmem, ⟨3, _⟩ => ⟨S1x40x1024, .f32⟩
  | .local _ .vmem, ⟨4, _⟩ => ⟨S1x40x1024, .f32⟩
  | .local _ .vmem, ⟨5, _⟩ => ⟨S1x1024x1024, .i8⟩
  | .local _ .vmem, ⟨6, _⟩ => ⟨S1x1024x1024, .i8⟩
  | .local _ .vmem, ⟨7, _⟩ => ⟨S31x1024, .f32⟩
  | .local _ .vmem, ⟨8, _⟩ => ⟨S1x1024, .f32⟩
  | .local _ .vmem, ⟨9, _⟩ => ⟨S1x1024x8192, .i8⟩
  | .local _ .vmem, ⟨10, _⟩ => ⟨S1x1024x8192, .i8⟩
  | .local _ .vmem, ⟨11, _⟩ => ⟨S31x8192, .f32⟩
  | .local _ .vmem, ⟨12, _⟩ => ⟨S1x4096x1024, .i8⟩
  | .local _ .vmem, ⟨13, _⟩ => ⟨S1x4096x1024, .i8⟩
  | .local _ .vmem, ⟨14, _⟩ => ⟨S31x1024, .f32⟩
  | .local _ .vmem, ⟨15, _⟩ => ⟨S1x1024x2051, .i8⟩
  | .local _ .vmem, ⟨16, _⟩ => ⟨S1x1024x2051, .i8⟩
  | .local _ .vmem, ⟨17, _⟩ => ⟨S31x2051, .f32⟩
  | .local _ .vmem, ⟨18, _⟩ => ⟨S1x40x2051, .f32⟩
  | .local _ .vmem, ⟨19, _⟩ => ⟨S1x40x2051, .f32⟩
  | .local _ .vmem, ⟨20, _⟩ => ⟨S1x40x1024, .bf16⟩
  | .local _ .vmem, ⟨21, _⟩ => ⟨S1x40x1024, .bf16⟩
  | .local _ .vmem, ⟨22, _⟩ => ⟨S1x40x1024, .i8⟩
  | .local _ .vmem, ⟨23, _⟩ => ⟨S1x40x1024, .i8⟩
  | .local _ .vmem, ⟨24, _⟩ => ⟨S1x40x1024, .i8⟩
  | .local _ .vmem, ⟨25, _⟩ => ⟨S1x40x1024, .i8⟩
  | .local _ .vmem, ⟨26, _⟩ => ⟨S1x40x4096, .i8⟩
  | .local _ .vmem, ⟨27, _⟩ => ⟨S1x40x4096, .i8⟩
  | .local _ .vmem, ⟨28, _⟩ => ⟨S1x40x1024, .i8⟩
  | .local _ .vmem, ⟨29, _⟩ => ⟨S1x40x1024, .i8⟩
  | .local _ .vmem, ⟨30, _⟩ => ⟨S40x128, .f32⟩
  | .local _ .vmem, ⟨31, _⟩ => ⟨S40x128, .f32⟩
  | .local _ .vmem, ⟨32, _⟩ => ⟨S40x128, .f32⟩
  | .local _ .vmem, ⟨33, _⟩ => ⟨S40x128, .f32⟩
  | .local _ .vmem, ⟨34, _⟩ => ⟨S40x128, .f32⟩
  | .local _ .vmem, ⟨35, _⟩ => ⟨S40x128, .f32⟩
  | .local _ .vmem, ⟨36, _⟩ => ⟨S40x4096, .f32⟩
  | _, _ => ⟨S40x31, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev main_v1_7 : Ref sig .tc := ⟨.hbm, 20, rfl⟩
abbrev main_v1_8 : Ref sig .tc := ⟨.hbm, 21, rfl⟩
abbrev main_v1_9 : Ref sig .tc := ⟨.hbm, 22, rfl⟩
abbrev main_v1_10 : Ref sig .tc := ⟨.hbm, 23, rfl⟩
abbrev main_v1_11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_scratch0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35

abbrev nD : Nat := 1
abbrev τ : Topo := Topo.v7x

variable {F : FTy → Type} [FloatOps F]

abbrev grid0 : Pipeline.Grid := ⟨1, ![31], ![false]⟩

def k0_off1 (i : grid0.Coords) : Fin 2 → Nat :=
  let arg0 : BitVec 32 := BitVec.ofNat 32 (i 0).val
  let v45 : Index := Scalar.indexCast arg0
  let c0_20 : Index := 0#32
  ![v45.toNat, 0]
def k0_off2 (i : grid0.Coords) : Fin 2 → Nat :=
  let arg0 : BitVec 32 := BitVec.ofNat 32 (i 0).val
  let v102 : Index := Scalar.indexCast arg0
  let c0_43 : Index := 0#32
  ![v102.toNat, 0]
def k0_off3 (i : grid0.Coords) : Fin 2 → Nat :=
  let arg0 : BitVec 32 := BitVec.ofNat 32 (i 0).val
  let v112 : Index := Scalar.indexCast arg0
  let c4096_47 : Index := 4096#32
  ![v112.toNat, 4096]
def k0_off4 (i : grid0.Coords) : Fin 2 → Nat :=
  let arg0 : BitVec 32 := BitVec.ofNat 32 (i 0).val
  let v128 : Index := Scalar.indexCast arg0
  let c1024_53 : Index := 1024#32
  ![v128.toNat, 1024]
def k0_off5 (i : grid0.Coords) : Fin 2 → Nat :=
  let arg0 : BitVec 32 := BitVec.ofNat 32 (i 0).val
  let v138 : Index := Scalar.indexCast arg0
  let c5120_57 : Index := 5120#32
  ![v138.toNat, 5120]
def k0_off6 (i : grid0.Coords) : Fin 2 → Nat :=
  let arg0 : BitVec 32 := BitVec.ofNat 32 (i 0).val
  let v154 : Index := Scalar.indexCast arg0
  let c2048_63 : Index := 2048#32
  ![v154.toNat, 2048]
def k0_off7 (i : grid0.Coords) : Fin 2 → Nat :=
  let arg0 : BitVec 32 := BitVec.ofNat 32 (i 0).val
  let v164 : Index := Scalar.indexCast arg0
  let c6144_67 : Index := 6144#32
  ![v164.toNat, 6144]
def k0_off8 (i : grid0.Coords) : Fin 2 → Nat :=
  let arg0 : BitVec 32 := BitVec.ofNat 32 (i 0).val
  let v180 : Index := Scalar.indexCast arg0
  let c3072_73 : Index := 3072#32
  ![v180.toNat, 3072]
def k0_off9 (i : grid0.Coords) : Fin 2 → Nat :=
  let arg0 : BitVec 32 := BitVec.ofNat 32 (i 0).val
  let v190 : Index := Scalar.indexCast arg0
  let c7168_77 : Index := 7168#32
  ![v190.toNat, 7168]
def k0_off10 (i : grid0.Coords) : Fin 2 → Nat :=
  let arg0 : BitVec 32 := BitVec.ofNat 32 (i 0).val
  let v286 : Index := Scalar.indexCast arg0
  let c0_120 : Index := 0#32
  ![v286.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x31 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x40x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x40x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x8192 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S31x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4096x1024 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S31x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x2051 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S31x2051 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x40x2051 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x40x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x40x1024 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x40x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x40x4096 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x40x1024 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S40x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S40x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S40x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S40x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S40x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S40x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MlpRefIdeal.lean ====
abbrev S40x31 : Shape := ⟨2, ![40, 31]⟩
abbrev S31x40x1024 : Shape := ⟨3, ![31, 40, 1024]⟩
abbrev S31x1024x1024 : Shape := ⟨3, ![31, 1024, 1024]⟩
abbrev S31x1024 : Shape := ⟨2, ![31, 1024]⟩
abbrev S1024 : Shape := ⟨1, ![1024]⟩
abbrev S31x1024x8192 : Shape := ⟨3, ![31, 1024, 8192]⟩
abbrev S31x8192 : Shape := ⟨2, ![31, 8192]⟩
abbrev S31x4096x1024 : Shape := ⟨3, ![31, 4096, 1024]⟩
abbrev S31x1024x2051 : Shape := ⟨3, ![31, 1024, 2051]⟩
abbrev S31x2051 : Shape := ⟨2, ![31, 2051]⟩
abbrev S_ : Shape := ⟨0, ![]⟩
abbrev S31x40 : Shape := ⟨2, ![31, 40]⟩
abbrev S31x40x1 : Shape := ⟨3, ![31, 40, 1]⟩
abbrev S31x1x1024 : Shape := ⟨3, ![31, 1, 1024]⟩
abbrev S1x1x1024 : Shape := ⟨3, ![1, 1, 1024]⟩
abbrev S31x40x8192 : Shape := ⟨3, ![31, 40, 8192]⟩
abbrev S31x1x8192 : Shape := ⟨3, ![31, 1, 8192]⟩
abbrev S31x40x4096 : Shape := ⟨3, ![31, 40, 4096]⟩
abbrev S31x40x2051 : Shape := ⟨3, ![31, 40, 2051]⟩
abbrev S31x1x2051 : Shape := ⟨3, ![31, 1, 2051]⟩
abbrev S2051 : Shape := ⟨1, ![2051]⟩
abbrev S1x1x2051 : Shape := ⟨3, ![1, 1, 2051]⟩
abbrev S40x128 : Shape := ⟨2, ![40, 128]⟩

abbrev nBuf : Space → Nat
  | .hbm => 243
  | .vmem => 0
  | .smem => 0
  | _ => 0

abbrev hbmTy0_0 (i : Nat) : BufTy := match i % 128 with
  | 0 => ⟨S40x31, .i32⟩
  | 1 => ⟨S31x40x1024, .f32⟩
  | 2 => ⟨S31x40x1024, .f32⟩
  | 3 => ⟨S31x1024x1024, .i8⟩
  | 4 => ⟨S31x1024, .f32⟩
  | 5 => ⟨S1024, .f32⟩
  | 6 => ⟨S31x1024x8192, .i8⟩
  | 7 => ⟨S31x8192, .f32⟩
  | 8 => ⟨S31x4096x1024, .i8⟩
  | 9 => ⟨S31x1024, .f32⟩
  | 10 => ⟨S31x1024x2051, .i8⟩
  | 11 => ⟨S31x2051, .f32⟩
  | 12 => ⟨S31x40x1024, .f32⟩
  | 13 => ⟨S_, .f32⟩
  | 14 => ⟨S31x40, .f32⟩
  | 15 => ⟨S_, .f32⟩
  | 16 => ⟨S31x40, .f32⟩
  | 17 => ⟨S31x40, .i1⟩
  | 18 => ⟨S_, .f32⟩
  | 19 => ⟨S31x40, .f32⟩
  | 20 => ⟨S31x40, .f32⟩
  | 21 => ⟨S_, .f32⟩
  | 22 => ⟨S_, .f32⟩
  | 23 => ⟨S31x40, .f32⟩
  | 24 => ⟨S31x40, .f32⟩
  | 25 => ⟨S31x40x1, .f32⟩
  | 26 => ⟨S31x40x1024, .f32⟩
  | 27 => ⟨S31x40x1024, .f32⟩
  | 28 => ⟨S31x40x1024, .f32⟩
  | 29 => ⟨S_, .i32⟩
  | 30 => ⟨S_, .i32⟩
  | 31 => ⟨S_, .f32⟩
  | 32 => ⟨S31x40x1024, .f32⟩
  | 33 => ⟨S31x40x1024, .f32⟩
  | 34 => ⟨S_, .f32⟩
  | 35 => ⟨S31x40x1024, .f32⟩
  | 36 => ⟨S31x40x1024, .f32⟩
  | 37 => ⟨S31x40x1024, .i32⟩
  | 38 => ⟨S31x40x1024, .i8⟩
  | 39 => ⟨S31x40x1024, .i32⟩
  | 40 => ⟨S31x40x1024, .bf16⟩
  | 41 => ⟨S31x1024x1024, .i32⟩
  | 42 => ⟨S31x1024x1024, .bf16⟩
  | 43 => ⟨S31x40x1024, .f32⟩
  | 44 => ⟨S31x40x1, .f32⟩
  | 45 => ⟨S31x40x1024, .f32⟩
  | 46 => ⟨S31x40x1024, .f32⟩
  | 47 => ⟨S31x1x1024, .f32⟩
  | 48 => ⟨S31x40x1024, .f32⟩
  | 49 => ⟨S31x40x1024, .f32⟩
  | 50 => ⟨S31x40x1024, .f32⟩
  | 51 => ⟨S31x40x1024, .f32⟩
  | 52 => ⟨S_, .f32⟩
  | 53 => ⟨S31x40, .f32⟩
  | 54 => ⟨S31x40x1, .f32⟩
  | 55 => ⟨S_, .f32⟩
  | 56 => ⟨S31x40x1, .f32⟩
  | 57 => ⟨S31x40x1, .f32⟩
  | 58 => ⟨S_, .f32⟩
  | 59 => ⟨S31x40x1, .f32⟩
  | 60 => ⟨S31x40x1, .f32⟩
  | 61 => ⟨S31x40x1, .f32⟩
  | 62 => ⟨S31x40x1024, .f32⟩
  | 63 => ⟨S31x40x1024, .f32⟩
  | 64 => ⟨S1x1x1024, .f32⟩
  | 65 => ⟨S31x40x1024, .f32⟩
  | 66 => ⟨S31x40x1024, .f32⟩
  | 67 => ⟨S31x40x1024, .f32⟩
  | 68 => ⟨S_, .f32⟩
  | 69 => ⟨S31x40, .f32⟩
  | 70 => ⟨S_, .f32⟩
  | 71 => ⟨S31x40, .f32⟩
  | 72 => ⟨S31x40, .i1⟩
  | 73 => ⟨S_, .f32⟩
  | 74 => ⟨S31x40, .f32⟩
  | 75 => ⟨S31x40, .f32⟩
  | 76 => ⟨S_, .f32⟩
  | 77 => ⟨S_, .f32⟩
  | 78 => ⟨S31x40, .f32⟩
  | 79 => ⟨S31x40, .f32⟩
  | 80 => ⟨S31x40x1, .f32⟩
  | 81 => ⟨S31x40x1024, .f32⟩
  | 82 => ⟨S31x40x1024, .f32⟩
  | 83 => ⟨S31x40x1024, .f32⟩
  | 84 => ⟨S_, .i32⟩
  | 85 => ⟨S_, .i32⟩
  | 86 => ⟨S_, .f32⟩
  | 87 => ⟨S31x40x1024, .f32⟩
  | 88 => ⟨S31x40x1024, .f32⟩
  | 89 => ⟨S_, .f32⟩
  | 90 => ⟨S31x40x1024, .f32⟩
  | 91 => ⟨S31x40x1024, .f32⟩
  | 92 => ⟨S31x40x1024, .i32⟩
  | 93 => ⟨S31x40x1024, .i8⟩
  | 94 => ⟨S31x40x1024, .i32⟩
  | 95 => ⟨S31x40x1024, .bf16⟩
  | 96 => ⟨S31x1024x8192, .i32⟩
  | 97 => ⟨S31x1024x8192, .bf16⟩
  | 98 => ⟨S31x40x8192, .f32⟩
  | 99 => ⟨S31x40x1, .f32⟩
  | 100 => ⟨S31x40x8192, .f32⟩
  | 101 => ⟨S31x40x8192, .f32⟩
  | 102 => ⟨S31x1x8192, .f32⟩
  | 103 => ⟨S31x40x8192, .f32⟩
  | 104 => ⟨S31x40x8192, .f32⟩
  | 105 => ⟨S31x40x4096, .f32⟩
  | 106 => ⟨S31x40x4096, .f32⟩
  | 107 => ⟨S31x40x4096, .f32⟩
  | 108 => ⟨S_, .f32⟩
  | 109 => ⟨S31x40x4096, .f32⟩
  | 110 => ⟨S31x40x4096, .f32⟩
  | 111 => ⟨S_, .f32⟩
  | 112 => ⟨S31x40x4096, .f32⟩
  | 113 => ⟨S31x40x4096, .f32⟩
  | 114 => ⟨S31x40x4096, .f32⟩
  | 115 => ⟨S31x40x4096, .f32⟩
  | 116 => ⟨S31x40x4096, .f32⟩
  | 117 => ⟨S31x40x4096, .f32⟩
  | 118 => ⟨S_, .f32⟩
  | 119 => ⟨S31x40, .f32⟩
  | 120 => ⟨S_, .f32⟩
  | 121 => ⟨S31x40, .f32⟩
  | 122 => ⟨S31x40, .i1⟩
  | 123 => ⟨S_, .f32⟩
  | 124 => ⟨S31x40, .f32⟩
  | 125 => ⟨S31x40, .f32⟩
  | 126 => ⟨S_, .f32⟩
  | 127 => ⟨S_, .f32⟩
  | _ => ⟨S40x31, .i32⟩

abbrev hbmTy0_1 (i : Nat) : BufTy := match i % 128 with
  | 0 => ⟨S31x40, .f32⟩
  | 1 => ⟨S31x40, .f32⟩
  | 2 => ⟨S31x40x1, .f32⟩
  | 3 => ⟨S31x40x4096, .f32⟩
  | 4 => ⟨S31x40x4096, .f32⟩
  | 5 => ⟨S31x40x4096, .f32⟩
  | 6 => ⟨S_, .i32⟩
  | 7 => ⟨S_, .i32⟩
  | 8 => ⟨S_, .f32⟩
  | 9 => ⟨S31x40x4096, .f32⟩
  | 10 => ⟨S31x40x4096, .f32⟩
  | 11 => ⟨S_, .f32⟩
  | 12 => ⟨S31x40x4096, .f32⟩
  | 13 => ⟨S31x40x4096, .f32⟩
  | 14 => ⟨S31x40x4096, .i32⟩
  | 15 => ⟨S31x40x4096, .i8⟩
  | 16 => ⟨S31x40x4096, .i32⟩
  | 17 => ⟨S31x40x4096, .bf16⟩
  | 18 => ⟨S31x4096x1024, .i32⟩
  | 19 => ⟨S31x4096x1024, .bf16⟩
  | 20 => ⟨S31x40x1024, .f32⟩
  | 21 => ⟨S31x40x1, .f32⟩
  | 22 => ⟨S31x40x1024, .f32⟩
  | 23 => ⟨S31x40x1024, .f32⟩
  | 24 => ⟨S31x1x1024, .f32⟩
  | 25 => ⟨S31x40x1024, .f32⟩
  | 26 => ⟨S31x40x1024, .f32⟩
  | 27 => ⟨S31x40x1024, .f32⟩
  | 28 => ⟨S31x40x1024, .f32⟩
  | 29 => ⟨S_, .f32⟩
  | 30 => ⟨S31x40, .f32⟩
  | 31 => ⟨S_, .f32⟩
  | 32 => ⟨S31x40, .f32⟩
  | 33 => ⟨S31x40, .i1⟩
  | 34 => ⟨S_, .f32⟩
  | 35 => ⟨S31x40, .f32⟩
  | 36 => ⟨S31x40, .f32⟩
  | 37 => ⟨S_, .f32⟩
  | 38 => ⟨S_, .f32⟩
  | 39 => ⟨S31x40, .f32⟩
  | 40 => ⟨S31x40, .f32⟩
  | 41 => ⟨S31x40x1, .f32⟩
  | 42 => ⟨S31x40x1024, .f32⟩
  | 43 => ⟨S31x40x1024, .f32⟩
  | 44 => ⟨S31x40x1024, .f32⟩
  | 45 => ⟨S_, .i32⟩
  | 46 => ⟨S_, .i32⟩
  | 47 => ⟨S_, .f32⟩
  | 48 => ⟨S31x40x1024, .f32⟩
  | 49 => ⟨S31x40x1024, .f32⟩
  | 50 => ⟨S_, .f32⟩
  | 51 => ⟨S31x40x1024, .f32⟩
  | 52 => ⟨S31x40x1024, .f32⟩
  | 53 => ⟨S31x40x1024, .i32⟩
  | 54 => ⟨S31x40x1024, .i8⟩
  | 55 => ⟨S31x40x1024, .i32⟩
  | 56 => ⟨S31x40x1024, .bf16⟩
  | 57 => ⟨S31x1024x2051, .i32⟩
  | 58 => ⟨S31x1024x2051, .bf16⟩
  | 59 => ⟨S31x40x2051, .f32⟩
  | 60 => ⟨S31x40x1, .f32⟩
  | 61 => ⟨S31x40x2051, .f32⟩
  | 62 => ⟨S31x40x2051, .f32⟩
  | 63 => ⟨S31x1x2051, .f32⟩
  | 64 => ⟨S31x40x2051, .f32⟩
  | 65 => ⟨S31x40x2051, .f32⟩
  | 66 => ⟨S31x40x1024, .bf16⟩
  | 67 => ⟨S_, .f32⟩
  | 68 => ⟨S31x40, .f32⟩
  | 69 => ⟨S31x40x1, .f32⟩
  | 70 => ⟨S31x40x2051, .f32⟩
  | 71 => ⟨S31x40x2051, .f32⟩
  | 72 => ⟨S31x40x2051, .f32⟩
  | 73 => ⟨S_, .f32⟩
  | 74 => ⟨S31x40, .f32⟩
  | 75 => ⟨S31x40, .f32⟩
  | 76 => ⟨S31x40, .f32⟩
  | 77 => ⟨S2051, .i32⟩
  | 78 => ⟨S31x40, .i32⟩
  | 79 => ⟨S31x40x1, .i32⟩
  | 80 => ⟨S1x1x2051, .i32⟩
  | 81 => ⟨S31x40x2051, .i32⟩
  | 82 => ⟨S31x40x2051, .i32⟩
  | 83 => ⟨S31x40x2051, .i1⟩
  | 84 => ⟨S_, .f32⟩
  | 85 => ⟨S_, .f32⟩
  | 86 => ⟨S31x40x2051, .f32⟩
  | 87 => ⟨S31x40x2051, .f32⟩
  | 88 => ⟨S_, .f32⟩
  | 89 => ⟨S31x40, .f32⟩
  | 90 => ⟨S31x40, .f32⟩
  | 91 => ⟨S40x31, .f32⟩
  | 92 => ⟨S_, .i32⟩
  | 93 => ⟨S_, .f32⟩
  | 94 => ⟨S40x128, .f32⟩
  | 95 => ⟨S40x31, .f32⟩
  | 96 => ⟨S_, .i32⟩
  | 97 => ⟨S_, .f32⟩
  | 98 => ⟨S40x128, .f32⟩
  | 99 => ⟨S40x31, .f32⟩
  | 100 => ⟨S_, .i32⟩
  | 101 => ⟨S_, .f32⟩
  | 102 => ⟨S40x128, .f32⟩
  | 103 => ⟨S40x31, .f32⟩
  | 104 => ⟨S_, .i32⟩
  | 105 => ⟨S_, .f32⟩
  | 106 => ⟨S40x128, .f32⟩
  | 107 => ⟨S40x31, .f32⟩
  | 108 => ⟨S_, .i32⟩
  | 109 => ⟨S_, .f32⟩
  | 110 => ⟨S40x128, .f32⟩
  | 111 => ⟨S40x31, .f32⟩
  | 112 => ⟨S_, .i32⟩
  | 113 => ⟨S_, .f32⟩
  | 114 => ⟨S40x128, .f32⟩
  | _ => ⟨S40x31, .i32⟩

abbrev hbmTy (i : Nat) : BufTy := match i / 128 with
  | 0 => hbmTy0_0 i
  | 1 => hbmTy0_1 i
  | _ => ⟨S40x31, .i32⟩

abbrev bufTy : (tb : Table) → Fin (tcTables nBuf tb) → BufTy
  | .hbm, ⟨i, _⟩ => hbmTy i
  | _, _ => ⟨S40x31, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_call3_v0 : Ref sig .tc := ⟨.hbm, 77, rfl⟩
abbrev main_call3_v1 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_c_12 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call6_v0 : Ref sig .tc := ⟨.hbm, 106, rfl⟩
abbrev main_call6_v1 : Ref sig .tc := ⟨.hbm, 107, rfl⟩
abbrev main_call6_cst : Ref sig .tc := ⟨.hbm, 108, rfl⟩
abbrev main_call6_v2 : Ref sig .tc := ⟨.hbm, 109, rfl⟩
abbrev main_call6_v3 : Ref sig .tc := ⟨.hbm, 110, rfl⟩
abbrev main_call6_cst_0 : Ref sig .tc := ⟨.hbm, 111, rfl⟩
abbrev main_call6_v4 : Ref sig .tc := ⟨.hbm, 112, rfl⟩
abbrev main_call6_v5 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_13 : Ref sig .tc := ⟨.hbm, 118, rfl⟩
abbrev main_v69 : Ref sig .tc := ⟨.hbm, 119, rfl⟩
abbrev main_cst_14 : Ref sig .tc := ⟨.hbm, 120, rfl⟩
abbrev main_v70 : Ref sig .tc := ⟨.hbm, 121, rfl⟩
abbrev main_v71 : Ref sig .tc := ⟨.hbm, 122, rfl⟩
abbrev main_cst_15 : Ref sig .tc := ⟨.hbm, 123, rfl⟩
abbrev main_v72 : Ref sig .tc := ⟨.hbm, 124, rfl⟩
abbrev main_v73 : Ref sig .tc := ⟨.hbm, 125, rfl⟩
abbrev main_cst_16 : Ref sig .tc := ⟨.hbm, 126, rfl⟩
abbrev main_call7_v0 : Ref sig .tc := ⟨.hbm, 127, rfl⟩
abbrev main_call7_v1 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_17 : Ref sig .tc := ⟨.hbm, 134, rfl⟩
abbrev main_c_18 : Ref sig .tc := ⟨.hbm, 135, rfl⟩
abbrev main_call9_v0 : Ref sig .tc := ⟨.hbm, 136, rfl⟩
abbrev main_call9_v1 : Ref sig .tc := ⟨.hbm, 137, rfl⟩
abbrev main_call9_v2 : Ref sig .tc := ⟨.hbm, 138, rfl⟩
abbrev main_call9_v3 : Ref sig .tc := ⟨.hbm, 139, rfl⟩
abbrev main_call9_v4 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_19 : Ref sig .tc := ⟨.hbm, 157, rfl⟩
abbrev main_v95 : Ref sig .tc := ⟨.hbm, 158, rfl⟩
abbrev main_cst_20 : Ref sig .tc := ⟨.hbm, 159, rfl⟩
abbrev main_v96 : Ref sig .tc := ⟨.hbm, 160, rfl⟩
abbrev main_v97 : Ref sig .tc := ⟨.hbm, 161, rfl⟩
abbrev main_cst_21 : Ref sig .tc := ⟨.hbm, 162, rfl⟩
abbrev main_v98 : Ref sig .tc := ⟨.hbm, 163, rfl⟩
abbrev main_v99 : Ref sig .tc := ⟨.hbm, 164, rfl⟩
abbrev main_cst_22 : Ref sig .tc := ⟨.hbm, 165, rfl⟩
abbrev main_call10_v0 : Ref sig .tc := ⟨.hbm, 166, rfl⟩
abbrev main_call10_v1 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_c_23 : Ref sig .tc := ⟨.hbm, 173, rfl⟩
abbrev main_c_24 : Ref sig .tc := ⟨.hbm, 174, rfl⟩
abbrev main_call12_v0 : Ref sig .tc := ⟨.hbm, 175, rfl⟩
abbrev main_call12_v1 : Ref sig .tc := ⟨.hbm, 176, rfl⟩
abbrev main_call12_v2 : Ref sig .tc := ⟨.hbm, 177, rfl⟩
abbrev main_call12_v3 : Ref sig .tc := ⟨.hbm, 178, rfl⟩
abbrev main_call12_v4 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_25 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_26 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_cst_27 : Ref sig .tc := ⟨.hbm, 212, rfl⟩
abbrev main_call13_v0 : Ref sig .tc := ⟨.hbm, 213, rfl⟩
abbrev main_call13_v1 : Ref sig .tc := ⟨.hbm, 214, rfl⟩
abbrev main_v135 : Ref sig .tc := ⟨.hbm, 215, rfl⟩
abbrev main_cst_28 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_c_29 : Ref sig .tc := ⟨.hbm, 220, rfl⟩
abbrev main_call14_v0 : Ref sig .tc := ⟨.hbm, 221, rfl⟩
abbrev main_v139 : Ref sig .tc := ⟨.hbm, 222, rfl⟩
abbrev main_v140 : Ref sig .tc := ⟨.hbm, 223, rfl⟩
abbrev main_c_30 : Ref sig .tc := ⟨.hbm, 224, rfl⟩
abbrev main_call15_v0 : Ref sig .tc := ⟨.hbm, 225, rfl⟩
abbrev main_v141 : Ref sig .tc := ⟨.hbm, 226, rfl⟩
abbrev main_v142 : Ref sig .tc := ⟨.hbm, 227, rfl⟩
abbrev main_c_31 : Ref sig .tc := ⟨.hbm, 228, rfl⟩
abbrev main_call16_v0 : Ref sig .tc := ⟨.hbm, 229, rfl⟩
abbrev main_v143 : Ref sig .tc := ⟨.hbm, 230, rfl⟩
abbrev main_v144 : Ref sig .tc := ⟨.hbm, 231, rfl⟩
abbrev main_c_32 : Ref sig .tc := ⟨.hbm, 232, rfl⟩
abbrev main_call17_v0 : Ref sig .tc := ⟨.hbm, 233, rfl⟩
abbrev main_v145 : Ref sig .tc := ⟨.hbm, 234, rfl⟩
abbrev main_v146 : Ref sig .tc := ⟨.hbm, 235, rfl⟩
abbrev main_c_33 : Ref sig .tc := ⟨.hbm, 236, rfl⟩
abbrev main_call18_v0 : Ref sig .tc := ⟨.hbm, 237, rfl⟩
abbrev main_v147 : Ref sig .tc := ⟨.hbm, 238, rfl⟩
abbrev main_v148 : Ref sig .tc := ⟨.hbm, 239, rfl⟩
abbrev main_c_34 : Ref sig .tc := ⟨.hbm, 240, rfl⟩
abbrev main_call19_v0 : Ref sig .tc := ⟨.hbm, 241, rfl⟩
abbrev main_v149 : Ref sig .tc := ⟨.hbm, 242, rfl⟩

abbrev nD : Nat := 1
abbrev τ : Topo := Topo.v7x

variable {F : FTy → Type} [FloatOps F]
-- ==== Attn.lean ====
abbrev S31x40x3072 : Shape := ⟨3, ![31, 40, 3072]⟩
abbrev S31x40x1024 : Shape := ⟨3, ![31, 40, 1024]⟩
abbrev S31x8x1024 : Shape := ⟨3, ![31, 8, 1024]⟩
abbrev S248x248 : Shape := ⟨2, ![248, 248]⟩
abbrev S31x8x128 : Shape := ⟨3, ![31, 8, 128]⟩
abbrev S248x128 : Shape := ⟨2, ![248, 128]⟩
abbrev S248 : Shape := ⟨1, ![248]⟩
abbrev S248x1 : Shape := ⟨2, ![248, 1]⟩

abbrev nBuf : Space → Nat
  | .hbm => 2
  | .vmem => 8
  | .smem => 0
  | _ => 0

abbrev bufTy : (tb : Table) → Fin (tcTables nBuf tb) → BufTy
  | .hbm, ⟨0, _⟩ => ⟨S31x40x3072, .f32⟩
  | .hbm, ⟨1, _⟩ => ⟨S31x40x1024, .f32⟩
  | .local _ .vmem, ⟨0, _⟩ => ⟨S31x8x1024, .f32⟩
  | .local _ .vmem, ⟨1, _⟩ => ⟨S31x8x1024, .f32⟩
  | .local _ .vmem, ⟨2, _⟩ => ⟨S31x8x1024, .f32⟩
  | .local _ .vmem, ⟨3, _⟩ => ⟨S31x8x1024, .f32⟩
  | .local _ .vmem, ⟨4, _⟩ => ⟨S31x8x1024, .f32⟩
  | .local _ .vmem, ⟨5, _⟩ => ⟨S31x8x1024, .f32⟩
  | .local _ .vmem, ⟨6, _⟩ => ⟨S31x8x1024, .f32⟩
  | .local _ .vmem, ⟨7, _⟩ => ⟨S31x8x1024, .f32⟩
  | _, _ => ⟨S31x40x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S31x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S31x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnRefIdeal.lean ====
abbrev S31x40x3072 : Shape := ⟨3, ![31, 40, 3072]⟩
abbrev S31x40x1024 : Shape := ⟨3, ![31, 40, 1024]⟩
abbrev S31x40x8x128 : Shape := ⟨4, ![31, 40, 8, 128]⟩
abbrev S40x8x31x31 : Shape := ⟨4, ![40, 8, 31, 31]⟩
abbrev S_ : Shape := ⟨0, ![]⟩
abbrev S31 : Shape := ⟨1, ![31]⟩
abbrev S1x31 : Shape := ⟨2, ![1, 31]⟩
abbrev S31x1 : Shape := ⟨2, ![31, 1]⟩
abbrev S31x31 : Shape := ⟨2, ![31, 31]⟩
abbrev S40x8x31 : Shape := ⟨3, ![40, 8, 31]⟩
abbrev S40x8x31x1 : Shape := ⟨4, ![40, 8, 31, 1]⟩
abbrev S40x8x128x31 : Shape := ⟨4, ![40, 8, 128, 31]⟩
abbrev S31x40x8 : Shape := ⟨3, ![31, 40, 8]⟩
abbrev S31x40x8x1 : Shape := ⟨4, ![31, 40, 8, 1]⟩

abbrev nBuf : Space → Nat
  | .hbm => 47
  | .vmem => 0
  | .smem => 0
  | _ => 0

abbrev bufTy : (tb : Table) → Fin (tcTables nBuf tb) → BufTy
  | .hbm, ⟨0, _⟩ => ⟨S31x40x3072, .f32⟩
  | .hbm, ⟨1, _⟩ => ⟨S31x40x1024, .f32⟩
  | .hbm, ⟨2, _⟩ => ⟨S31x40x1024, .f32⟩
  | .hbm, ⟨3, _⟩ => ⟨S31x40x1024, .f32⟩
  | .hbm, ⟨4, _⟩ => ⟨S31x40x8x128, .f32⟩
  | .hbm, ⟨5, _⟩ => ⟨S31x40x8x128, .bf16⟩
  | .hbm, ⟨6, _⟩ => ⟨S31x40x8x128, .f32⟩
  | .hbm, ⟨7, _⟩ => ⟨S31x40x8x128, .bf16⟩
  | .hbm, ⟨8, _⟩ => ⟨S31x40x8x128, .f32⟩
  | .hbm, ⟨9, _⟩ => ⟨S31x40x8x128, .bf16⟩
  | .hbm, ⟨10, _⟩ => ⟨S40x8x31x31, .f32⟩
  | .hbm, ⟨11, _⟩ => ⟨S_, .f32⟩
  | .hbm, ⟨12, _⟩ => ⟨S40x8x31x31, .f32⟩
  | .hbm, ⟨13, _⟩ => ⟨S40x8x31x31, .f32⟩
  | .hbm, ⟨14, _⟩ => ⟨S31, .i32⟩
  | .hbm, ⟨15, _⟩ => ⟨S1x31, .i32⟩
  | .hbm, ⟨16, _⟩ => ⟨S31x1, .i32⟩
  | .hbm, ⟨17, _⟩ => ⟨S31x31, .i32⟩
  | .hbm, ⟨18, _⟩ => ⟨S31x31, .i32⟩
  | .hbm, ⟨19, _⟩ => ⟨S31x31, .i1⟩
  | .hbm, ⟨20, _⟩ => ⟨S_, .f32⟩
  | .hbm, ⟨21, _⟩ => ⟨S40x8x31x31, .f32⟩
  | .hbm, ⟨22, _⟩ => ⟨S40x8x31x31, .f32⟩
  | .hbm, ⟨23, _⟩ => ⟨S_, .f32⟩
  | .hbm, ⟨24, _⟩ => ⟨S_, .f32⟩
  | .hbm, ⟨25, _⟩ => ⟨S40x8x31x31, .i1⟩
  | .hbm, ⟨26, _⟩ => ⟨S40x8x31x31, .f32⟩
  | .hbm, ⟨27, _⟩ => ⟨S40x8x31x31, .f32⟩
  | .hbm, ⟨28, _⟩ => ⟨S_, .f32⟩
  | .hbm, ⟨29, _⟩ => ⟨S40x8x31, .f32⟩
  | .hbm, ⟨30, _⟩ => ⟨S40x8x31x1, .f32⟩
  | .hbm, ⟨31, _⟩ => ⟨S40x8x31x1, .f32⟩
  | .hbm, ⟨32, _⟩ => ⟨S_, .f32⟩
  | .hbm, ⟨33, _⟩ => ⟨S40x8x31x31, .f32⟩
  | .hbm, ⟨34, _⟩ => ⟨S40x8x31x31, .f32⟩
  | .hbm, ⟨35, _⟩ => ⟨S40x8x31x31, .f32⟩
  | .hbm, ⟨36, _⟩ => ⟨S40x8x31x31, .f32⟩
  | .hbm, ⟨37, _⟩ => ⟨S_, .f32⟩
  | .hbm, ⟨38, _⟩ => ⟨S40x8x31, .f32⟩
  | .hbm, ⟨39, _⟩ => ⟨S40x8x31x31, .bf16⟩
  | .hbm, ⟨40, _⟩ => ⟨S40x8x128x31, .f32⟩
  | .hbm, ⟨41, _⟩ => ⟨S31x40x8x128, .f32⟩
  | .hbm, ⟨42, _⟩ => ⟨S31x40x8, .f32⟩
  | .hbm, ⟨43, _⟩ => ⟨S31x40x8x1, .f32⟩
  | .hbm, ⟨44, _⟩ => ⟨S31x40x8x128, .f32⟩
  | .hbm, ⟨45, _⟩ => ⟨S31x40x8x128, .f32⟩
  | .hbm, ⟨46, _⟩ => ⟨S31x40x1024, .f32⟩
  | _, _ => ⟨S31x40x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Qkv.lean ====
abbrev S40x31 : Shape := ⟨2, ![40, 31]⟩
abbrev S40x1024 : Shape := ⟨2, ![40, 1024]⟩
abbrev S40x3072 : Shape := ⟨2, ![40, 3072]⟩
abbrev S40x1 : Shape := ⟨2, ![40, 1]⟩
abbrev S31x3072x1024 : Shape := ⟨3, ![31, 3072, 1024]⟩
abbrev S31x1024 : Shape := ⟨2, ![31, 1024]⟩
abbrev S30x2051x128 : Shape := ⟨3, ![30, 2051, 128]⟩
abbrev S30x2051 : Shape := ⟨2, ![30, 2051]⟩
abbrev S30x128x1024 : Shape := ⟨3, ![30, 128, 1024]⟩
abbrev S31x1024x3072 : Shape := ⟨3, ![31, 1024, 3072]⟩
abbrev S31x3072 : Shape := ⟨2, ![31, 3072]⟩
abbrev S1024 : Shape := ⟨1, ![1024]⟩
abbrev S1x1024 : Shape := ⟨2, ![1, 1024]⟩
abbrev S31x40x1024 : Shape := ⟨3, ![31, 40, 1024]⟩
abbrev S31x40x3072 : Shape := ⟨3, ![31, 40, 3072]⟩
abbrev S40x128 : Shape := ⟨2, ![40, 128]⟩
abbrev S8x40x128 : Shape := ⟨3, ![8, 40, 128]⟩
abbrev S1x3072x1024 : Shape := ⟨3, ![1, 3072, 1024]⟩
abbrev S1x2051x128 : Shape := ⟨3, ![1, 2051, 128]⟩
abbrev S1x128x1024 : Shape := ⟨3, ![1, 128, 1024]⟩
abbrev S1x1024x3072 : Shape := ⟨3, ![1, 1024, 3072]⟩
abbrev S1x40x1024 : Shape := ⟨3, ![1, 40, 1024]⟩
abbrev S1x40x3072 : Shape := ⟨3, ![1, 40, 3072]⟩
abbrev S40 : Shape := ⟨1, ![40]⟩
abbrev S40x2051 : Shape := ⟨2, ![40, 2051]⟩
abbrev S2051x128 : Shape := ⟨2, ![2051, 128]⟩
abbrev S1x2051 : Shape := ⟨2, ![1, 2051]⟩
abbrev S128x1024 : Shape := ⟨2, ![128, 1024]⟩
abbrev S3072x1024 : Shape := ⟨2, ![3072, 1024]⟩
abbrev S1024x3072 : Shape := ⟨2, ![1024, 3072]⟩
abbrev S1x3072 : Shape := ⟨2, ![1, 3072]⟩
abbrev S1x40x128 : Shape := ⟨3, ![1, 40, 128]⟩

abbrev nBuf : Space → Nat
  | .hbm => 21
  | .vmem => 29
  | .smem => 0
  | _ => 0

abbrev bufTy : (tb : Table) → Fin (tcTables nBuf tb) → BufTy
  | .hbm, ⟨0, _⟩ => ⟨S40x31, .i32⟩
  | .hbm, ⟨1, _⟩ => ⟨S40x1024, .f32⟩
  | .hbm, ⟨2, _⟩ => ⟨S40x3072, .i8⟩
  | .hbm, ⟨3, _⟩ => ⟨S40x1, .f32⟩
  | .hbm, ⟨4, _⟩ => ⟨S31x3072x1024, .i8⟩
  | .hbm, ⟨5, _⟩ => ⟨S31x1024, .f32⟩
  | .hbm, ⟨6, _⟩ => ⟨S30x2051x128, .i8⟩
  | .hbm, ⟨7, _⟩ => ⟨S30x2051, .f32⟩
  | .hbm, ⟨8, _⟩ => ⟨S30x128x1024, .f32⟩
  | .hbm, ⟨9, _⟩ => ⟨S31x1024x3072, .i8⟩
  | .hbm, ⟨10, _⟩ => ⟨S31x3072, .f32⟩
  | .hbm, ⟨11, _⟩ => ⟨S1024, .f32⟩
  | .hbm, ⟨12, _⟩ => ⟨S1x1024, .f32⟩
  | .hbm, ⟨13, _⟩ => ⟨S31x40x1024, .f32⟩
  | .hbm, ⟨14, _⟩ => ⟨S31x40x3072, .f32⟩
  | .hbm, ⟨15, _⟩ => ⟨S31x40x1024, .i8⟩
  | .hbm, ⟨16, _⟩ => ⟨S31x40x1024, .i8⟩
  | .hbm, ⟨17, _⟩ => ⟨S31x40x1024, .i8⟩
  | .hbm, ⟨18, _⟩ => ⟨S40x128, .f32⟩
  | .hbm, ⟨19, _⟩ => ⟨S8x40x128, .f32⟩
  | .hbm, ⟨20, _⟩ => ⟨S8x40x128, .f32⟩
  | .local _ .vmem, ⟨0, _⟩ => ⟨S40x31, .i32⟩
  | .local _ .vmem, ⟨1, _⟩ => ⟨S40x1024, .f32⟩
  | .local _ .vmem, ⟨2, _⟩ => ⟨S40x3072, .i8⟩
  | .local _ .vmem, ⟨3, _⟩ => ⟨S40x1, .f32⟩
  | .local _ .vmem, ⟨4, _⟩ => ⟨S1x3072x1024, .i8⟩
  | .local _ .vmem, ⟨5, _⟩ => ⟨S1x3072x1024, .i8⟩
  | .local _ .vmem, ⟨6, _⟩ => ⟨S31x1024, .f32⟩
  | .local _ .vmem, ⟨7, _⟩ => ⟨S1x2051x128, .i8⟩
  | .local _ .vmem, ⟨8, _⟩ => ⟨S1x2051x128, .i8⟩
  | .local _ .vmem, ⟨9, _⟩ => ⟨S30x2051, .f32⟩
  | .local _ .vmem, ⟨10, _⟩ => ⟨S1x128x1024, .f32⟩
  | .local _ .vmem, ⟨11, _⟩ => ⟨S1x128x1024, .f32⟩
  | .local _ .vmem, ⟨12, _⟩ => ⟨S1x1024x3072, .i8⟩
  | .local _ .vmem, ⟨13, _⟩ => ⟨S1x1024x3072, .i8⟩
  | .local _ .vmem, ⟨14, _⟩ => ⟨S31x3072, .f32⟩
  | .local _ .vmem, ⟨15, _⟩ => ⟨S1x1024, .f32⟩
  | .local _ .vmem, ⟨16, _⟩ => ⟨S1x40x1024, .f32⟩
  | .local _ .vmem, ⟨17, _⟩ => ⟨S1x40x1024, .f32⟩
  | .local _ .vmem, ⟨18, _⟩ => ⟨S1x40x3072, .f32⟩
  | .local _ .vmem, ⟨19, _⟩ => ⟨S1x40x3072, .f32⟩
  | .local _ .vmem, ⟨20, _⟩ => ⟨S1x40x1024, .i8⟩
  | .local _ .vmem, ⟨21, _⟩ => ⟨S1x40x1024, .i8⟩
  | .local _ .vmem, ⟨22, _⟩ => ⟨S1x40x1024, .i8⟩
  | .local _ .vmem, ⟨23, _⟩ => ⟨S1x40x1024, .i8⟩
  | .local _ .vmem, ⟨24, _⟩ => ⟨S1x40x1024, .i8⟩
  | .local _ .vmem, ⟨25, _⟩ => ⟨S1x40x1024, .i8⟩
  | .local _ .vmem, ⟨26, _⟩ => ⟨S40x128, .f32⟩
  | .local _ .vmem, ⟨27, _⟩ => ⟨S8x40x128, .f32⟩
  | .local _ .vmem, ⟨28, _⟩ => ⟨S8x40x128, .f32⟩
  | _, _ => ⟨S40x31, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev main_v1_7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg0 : BitVec 32 := BitVec.ofNat 32 (i 0).val
  let c1_i32_276 : BitVec 32 := 1#32
  let v651 : BitVec 32 := Scalar.subi arg0 c1_i32_276
  let v652 : Index := Scalar.indexCast v651
  let c0_277 : Index := 0#32
  ![v652.toNat, 0]
def k0_off2 (i : grid0.Coords) : Fin 2 → Nat :=
  let arg0 : BitVec 32 := BitVec.ofNat 32 (i 0).val
  let v15 : Index := Scalar.indexCast arg0
  let c0_9 : Index := 0#32
  ![v15.toNat, 0]
def k0_off3 (i : grid0.Coords) : Fin 2 → Nat :=
  let arg0 : BitVec 32 := BitVec.ofNat 32 (i 0).val
  let v77 : Index := Scalar.indexCast arg0
  let c0_36 : Index := 0#32
  ![v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S40x31 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3072x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2051x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S30x2051 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x3072 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S31x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x40x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x40x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x40x1024 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x40x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x40x1024 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S40x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x40x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x40x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== QkvRefIdeal.lean ====
abbrev S40x31 : Shape := ⟨2, ![40, 31]⟩
abbrev S40x1024 : Shape := ⟨2, ![40, 1024]⟩
abbrev S40x3072 : Shape := ⟨2, ![40, 3072]⟩
abbrev S40x1 : Shape := ⟨2, ![40, 1]⟩
abbrev S31x3072x1024 : Shape := ⟨3, ![31, 3072, 1024]⟩
abbrev S31x1024 : Shape := ⟨2, ![31, 1024]⟩
abbrev S30x2051x128 : Shape := ⟨3, ![30, 2051, 128]⟩
abbrev S30x2051 : Shape := ⟨2, ![30, 2051]⟩
abbrev S30x128x1024 : Shape := ⟨3, ![30, 128, 1024]⟩
abbrev S31x1024x3072 : Shape := ⟨3, ![31, 1024, 3072]⟩
abbrev S31x3072 : Shape := ⟨2, ![31, 3072]⟩
abbrev S1024 : Shape := ⟨1, ![1024]⟩
abbrev S30 : Shape := ⟨1, ![30]⟩
abbrev S1x30 : Shape := ⟨2, ![1, 30]⟩
abbrev S40x30 : Shape := ⟨2, ![40, 30]⟩
abbrev S_ : Shape := ⟨0, ![]⟩
abbrev S40x30x1 : Shape := ⟨3, ![40, 30, 1]⟩
abbrev S40x30x2 : Shape := ⟨3, ![40, 30, 2]⟩
abbrev S40x30x128 : Shape := ⟨3, ![40, 30, 128]⟩
abbrev S30x40x1024 : Shape := ⟨3, ![30, 40, 1024]⟩
abbrev S31x1024x40 : Shape := ⟨3, ![31, 1024, 40]⟩
abbrev S31x40x1024 : Shape := ⟨3, ![31, 40, 1024]⟩
abbrev S1x40x1 : Shape := ⟨3, ![1, 40, 1]⟩
abbrev S31x1x1024 : Shape := ⟨3, ![31, 1, 1024]⟩
abbrev S1x40x1024 : Shape := ⟨3, ![1, 40, 1024]⟩
abbrev S31x40 : Shape := ⟨2, ![31, 40]⟩
abbrev S31x40x1 : Shape := ⟨3, ![31, 40, 1]⟩
abbrev S1x1x1024 : Shape := ⟨3, ![1, 1, 1024]⟩
abbrev S31x40x3072 : Shape := ⟨3, ![31, 40, 3072]⟩
abbrev S31x1x3072 : Shape := ⟨3, ![31, 1, 3072]⟩
abbrev S31x40x3x8x128 : Shape := ⟨5, ![31, 40, 3, 8, 128]⟩
abbrev S31x40x1x8x128 : Shape := ⟨5, ![31, 40, 1, 8, 128]⟩
abbrev S31x40x8x128 : Shape := ⟨4, ![31, 40, 8, 128]⟩
abbrev S31x40x8 : Shape := ⟨3, ![31, 40, 8]⟩
abbrev S31x40x8x1 : Shape := ⟨4, ![31, 40, 8, 1]⟩
abbrev S40x128 : Shape := ⟨2, ![40, 128]⟩
abbrev S31x8x40 : Shape := ⟨3, ![31, 8, 40]⟩
abbrev S8x40x31 : Shape := ⟨3, ![8, 40, 31]⟩
abbrev S8x40x128 : Shape := ⟨3, ![8, 40, 128]⟩

abbrev nBuf : Space → Nat
  | .hbm => 203
  | .vmem => 0
  | .smem => 0
  | _ => 0

abbrev hbmTy0_0 (i : Nat) : BufTy := match i % 128 with
  | 0 => ⟨S40x31, .i32⟩
  | 1 => ⟨S40x1024, .f32⟩
  | 2 => ⟨S40x3072, .i8⟩
  | 3 => ⟨S40x1, .f32⟩
  | 4 => ⟨S31x3072x1024, .i8⟩
  | 5 => ⟨S31x1024, .f32⟩
  | 6 => ⟨S30x2051x128, .i8⟩
  | 7 => ⟨S30x2051, .f32⟩
  | 8 => ⟨S30x128x1024, .f32⟩
  | 9 => ⟨S31x1024x3072, .i8⟩
  | 10 => ⟨S31x3072, .f32⟩
  | 11 => ⟨S1024, .f32⟩
  | 12 => ⟨S30, .i32⟩
  | 13 => ⟨S1x30, .i32⟩
  | 14 => ⟨S40x30, .i32⟩
  | 15 => ⟨S_, .i32⟩
  | 16 => ⟨S1x30, .i32⟩
  | 17 => ⟨S1x30, .i1⟩
  | 18 => ⟨S_, .i32⟩
  | 19 => ⟨S1x30, .i32⟩
  | 20 => ⟨S1x30, .i32⟩
  | 21 => ⟨S1x30, .i32⟩
  | 22 => ⟨S_, .i32⟩
  | 23 => ⟨S40x30, .i32⟩
  | 24 => ⟨S40x30, .i1⟩
  | 25 => ⟨S_, .i32⟩
  | 26 => ⟨S40x30, .i32⟩
  | 27 => ⟨S40x30, .i32⟩
  | 28 => ⟨S40x30, .i32⟩
  | 29 => ⟨S40x30, .i32⟩
  | 30 => ⟨S40x30x1, .i32⟩
  | 31 => ⟨S40x30x1, .i32⟩
  | 32 => ⟨S40x30x2, .i32⟩
  | 33 => ⟨S40x30x128, .i8⟩
  | 34 => ⟨S40x30x128, .i32⟩
  | 35 => ⟨S40x30x128, .f32⟩
  | 36 => ⟨S_, .i32⟩
  | 37 => ⟨S1x30, .i32⟩
  | 38 => ⟨S1x30, .i1⟩
  | 39 => ⟨S_, .i32⟩
  | 40 => ⟨S1x30, .i32⟩
  | 41 => ⟨S1x30, .i32⟩
  | 42 => ⟨S1x30, .i32⟩
  | 43 => ⟨S_, .i32⟩
  | 44 => ⟨S40x30, .i32⟩
  | 45 => ⟨S40x30, .i1⟩
  | 46 => ⟨S_, .i32⟩
  | 47 => ⟨S40x30, .i32⟩
  | 48 => ⟨S40x30, .i32⟩
  | 49 => ⟨S40x30, .i32⟩
  | 50 => ⟨S40x30, .i32⟩
  | 51 => ⟨S40x30x1, .i32⟩
  | 52 => ⟨S40x30x1, .i32⟩
  | 53 => ⟨S40x30x2, .i32⟩
  | 54 => ⟨S40x30, .f32⟩
  | 55 => ⟨S40x30x1, .f32⟩
  | 56 => ⟨S40x30x128, .f32⟩
  | 57 => ⟨S40x30x128, .f32⟩
  | 58 => ⟨S30x40x1024, .f32⟩
  | 59 => ⟨S40x3072, .i32⟩
  | 60 => ⟨S40x3072, .bf16⟩
  | 61 => ⟨S31x3072x1024, .i32⟩
  | 62 => ⟨S31x3072x1024, .bf16⟩
  | 63 => ⟨S31x1024x40, .f32⟩
  | 64 => ⟨S31x40x1024, .f32⟩
  | 65 => ⟨S1x40x1, .f32⟩
  | 66 => ⟨S31x40x1024, .f32⟩
  | 67 => ⟨S31x40x1024, .f32⟩
  | 68 => ⟨S31x1x1024, .f32⟩
  | 69 => ⟨S31x40x1024, .f32⟩
  | 70 => ⟨S31x40x1024, .f32⟩
  | 71 => ⟨S1x40x1024, .f32⟩
  | 72 => ⟨S31x40x1024, .f32⟩
  | 73 => ⟨S31x40x1024, .f32⟩
  | 74 => ⟨S31x40x1024, .f32⟩
  | 75 => ⟨S_, .f32⟩
  | 76 => ⟨S31x40, .f32⟩
  | 77 => ⟨S31x40x1, .f32⟩
  | 78 => ⟨S_, .f32⟩
  | 79 => ⟨S31x40x1, .f32⟩
  | 80 => ⟨S31x40x1, .f32⟩
  | 81 => ⟨S_, .f32⟩
  | 82 => ⟨S31x40x1, .f32⟩
  | 83 => ⟨S31x40x1, .f32⟩
  | 84 => ⟨S31x40x1, .f32⟩
  | 85 => ⟨S31x40x1024, .f32⟩
  | 86 => ⟨S31x40x1024, .f32⟩
  | 87 => ⟨S1x1x1024, .f32⟩
  | 88 => ⟨S31x40x1024, .f32⟩
  | 89 => ⟨S31x40x1024, .f32⟩
  | 90 => ⟨S31x40x1024, .f32⟩
  | 91 => ⟨S_, .f32⟩
  | 92 => ⟨S31x40, .f32⟩
  | 93 => ⟨S_, .f32⟩
  | 94 => ⟨S31x40, .f32⟩
  | 95 => ⟨S31x40, .i1⟩
  | 96 => ⟨S_, .f32⟩
  | 97 => ⟨S31x40, .f32⟩
  | 98 => ⟨S31x40, .f32⟩
  | 99 => ⟨S_, .f32⟩
  | 100 => ⟨S_, .f32⟩
  | 101 => ⟨S31x40, .f32⟩
  | 102 => ⟨S31x40, .f32⟩
  | 103 => ⟨S31x40x1, .f32⟩
  | 104 => ⟨S31x40x1024, .f32⟩
  | 105 => ⟨S31x40x1024, .f32⟩
  | 106 => ⟨S31x40x1024, .f32⟩
  | 107 => ⟨S_, .i32⟩
  | 108 => ⟨S_, .i32⟩
  | 109 => ⟨S_, .f32⟩
  | 110 => ⟨S31x40x1024, .f32⟩
  | 111 => ⟨S31x40x1024, .f32⟩
  | 112 => ⟨S_, .f32⟩
  | 113 => ⟨S31x40x1024, .f32⟩
  | 114 => ⟨S31x40x1024, .f32⟩
  | 115 => ⟨S31x40x1024, .i32⟩
  | 116 => ⟨S31x40x1024, .i8⟩
  | 117 => ⟨S31x40x1024, .i32⟩
  | 118 => ⟨S31x40x1024, .bf16⟩
  | 119 => ⟨S31x1024x3072, .i32⟩
  | 120 => ⟨S31x1024x3072, .bf16⟩
  | 121 => ⟨S31x40x3072, .f32⟩
  | 122 => ⟨S31x40x1, .f32⟩
  | 123 => ⟨S31x40x3072, .f32⟩
  | 124 => ⟨S31x40x3072, .f32⟩
  | 125 => ⟨S31x1x3072, .f32⟩
  | 126 => ⟨S31x40x3072, .f32⟩
  | 127 => ⟨S31x40x3072, .f32⟩
  | _ => ⟨S40x31, .i32⟩

abbrev hbmTy0_1 (i : Nat) : BufTy := match i % 128 with
  | 0 => ⟨S31x40x3x8x128, .f32⟩
  | 1 => ⟨S31x40x1x8x128, .f32⟩
  | 2 => ⟨S31x40x8x128, .f32⟩
  | 3 => ⟨S31x40x8x128, .f32⟩
  | 4 => ⟨S_, .f32⟩
  | 5 => ⟨S31x40x8, .f32⟩
  | 6 => ⟨S_, .f32⟩
  | 7 => ⟨S31x40x8, .f32⟩
  | 8 => ⟨S31x40x8, .i1⟩
  | 9 => ⟨S_, .f32⟩
  | 10 => ⟨S31x40x8, .f32⟩
  | 11 => ⟨S31x40x8, .f32⟩
  | 12 => ⟨S_, .f32⟩
  | 13 => ⟨S_, .f32⟩
  | 14 => ⟨S31x40x8, .f32⟩
  | 15 => ⟨S31x40x8, .f32⟩
  | 16 => ⟨S31x40x8x1, .f32⟩
  | 17 => ⟨S31x40x8x128, .f32⟩
  | 18 => ⟨S31x40x8x128, .f32⟩
  | 19 => ⟨S31x40x8x128, .f32⟩
  | 20 => ⟨S_, .i32⟩
  | 21 => ⟨S_, .i32⟩
  | 22 => ⟨S_, .f32⟩
  | 23 => ⟨S31x40x8x128, .f32⟩
  | 24 => ⟨S31x40x8x128, .f32⟩
  | 25 => ⟨S_, .f32⟩
  | 26 => ⟨S31x40x8x128, .f32⟩
  | 27 => ⟨S31x40x8x128, .f32⟩
  | 28 => ⟨S31x40x8x128, .i32⟩
  | 29 => ⟨S31x40x8x128, .i8⟩
  | 30 => ⟨S31x40x1x8x128, .f32⟩
  | 31 => ⟨S31x40x8x128, .f32⟩
  | 32 => ⟨S31x40x8x128, .f32⟩
  | 33 => ⟨S_, .f32⟩
  | 34 => ⟨S31x40x8, .f32⟩
  | 35 => ⟨S_, .f32⟩
  | 36 => ⟨S31x40x8, .f32⟩
  | 37 => ⟨S31x40x8, .i1⟩
  | 38 => ⟨S_, .f32⟩
  | 39 => ⟨S31x40x8, .f32⟩
  | 40 => ⟨S31x40x8, .f32⟩
  | 41 => ⟨S_, .f32⟩
  | 42 => ⟨S_, .f32⟩
  | 43 => ⟨S31x40x8, .f32⟩
  | 44 => ⟨S31x40x8, .f32⟩
  | 45 => ⟨S31x40x8x1, .f32⟩
  | 46 => ⟨S31x40x8x128, .f32⟩
  | 47 => ⟨S31x40x8x128, .f32⟩
  | 48 => ⟨S31x40x8x128, .f32⟩
  | 49 => ⟨S_, .i32⟩
  | 50 => ⟨S_, .i32⟩
  | 51 => ⟨S_, .f32⟩
  | 52 => ⟨S31x40x8x128, .f32⟩
  | 53 => ⟨S31x40x8x128, .f32⟩
  | 54 => ⟨S_, .f32⟩
  | 55 => ⟨S31x40x8x128, .f32⟩
  | 56 => ⟨S31x40x8x128, .f32⟩
  | 57 => ⟨S31x40x8x128, .i32⟩
  | 58 => ⟨S31x40x8x128, .i8⟩
  | 59 => ⟨S31x40x1024, .i8⟩
  | 60 => ⟨S31x40x1024, .i8⟩
  | 61 => ⟨S40x31, .f32⟩
  | 62 => ⟨S_, .i32⟩
  | 63 => ⟨S_, .f32⟩
  | 64 => ⟨S40x128, .f32⟩
  | 65 => ⟨S31x8x40, .f32⟩
  | 66 => ⟨S8x40x31, .f32⟩
  | 67 => ⟨S_, .i32⟩
  | 68 => ⟨S_, .f32⟩
  | 69 => ⟨S8x40x128, .f32⟩
  | 70 => ⟨S31x8x40, .f32⟩
  | 71 => ⟨S8x40x31, .f32⟩
  | 72 => ⟨S_, .i32⟩
  | 73 => ⟨S_, .f32⟩
  | 74 => ⟨S8x40x128, .f32⟩
  | _ => ⟨S40x31, .i32⟩

abbrev hbmTy (i : Nat) : BufTy := match i / 128 with
  | 0 => hbmTy0_0 i
  | 1 => hbmTy0_1 i
  | _ => ⟨S40x31, .i32⟩

abbrev bufTy : (tb : Table) → Fin (tcTables nBuf tb) → BufTy
  | .hbm, ⟨i, _⟩ => hbmTy i
  | _, _ => ⟨S40x31, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_call0_v0 : Ref sig .tc := ⟨.hbm, 100, rfl⟩
abbrev main_call0_v1 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_13 : Ref sig .tc := ⟨.hbm, 107, rfl⟩
abbrev main_c_14 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_cst_16 : Ref sig .tc := ⟨.hbm, 134, rfl⟩
abbrev main_v97 : Ref sig .tc := ⟨.hbm, 135, rfl⟩
abbrev main_v98 : Ref sig .tc := ⟨.hbm, 136, rfl⟩
abbrev main_cst_17 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_call3_v0 : Ref sig .tc := ⟨.hbm, 141, rfl⟩
abbrev main_call3_v1 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_19 : Ref sig .tc := ⟨.hbm, 148, rfl⟩
abbrev main_c_20 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_21 : Ref sig .tc := ⟨.hbm, 161, rfl⟩
abbrev main_v112 : Ref sig .tc := ⟨.hbm, 162, rfl⟩
abbrev main_cst_22 : Ref sig .tc := ⟨.hbm, 163, rfl⟩
abbrev main_v113 : Ref sig .tc := ⟨.hbm, 164, rfl⟩
abbrev main_v114 : Ref sig .tc := ⟨.hbm, 165, rfl⟩
abbrev main_cst_23 : Ref sig .tc := ⟨.hbm, 166, rfl⟩
abbrev main_v115 : Ref sig .tc := ⟨.hbm, 167, rfl⟩
abbrev main_v116 : Ref sig .tc := ⟨.hbm, 168, rfl⟩
abbrev main_cst_24 : Ref sig .tc := ⟨.hbm, 169, rfl⟩
abbrev main_call6_v0 : Ref sig .tc := ⟨.hbm, 170, rfl⟩
abbrev main_call6_v1 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_25 : Ref sig .tc := ⟨.hbm, 177, rfl⟩
abbrev main_c_26 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_c_27 : Ref sig .tc := ⟨.hbm, 190, rfl⟩
abbrev main_call9_v0 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_c_28 : Ref sig .tc := ⟨.hbm, 195, rfl⟩
abbrev main_call10_v0 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_c_29 : Ref sig .tc := ⟨.hbm, 200, rfl⟩
abbrev main_call11_v0 : Ref sig .tc := ⟨.hbm, 201, rfl⟩
abbrev main_v134 : Ref sig .tc := ⟨.hbm, 202, rfl⟩

abbrev nD : Nat := 1
abbrev τ : Topo := Topo.v7x

variable {F : FTy → Type} [FloatOps F]
-- ==== Proof.Rows.lean ====
module

public import Idealize.ShloMosaic.Lib.Pointwise

@[expose] public section

noncomputable section
open Idealize.ShloMosaic

namespace Cert.Rows

/-! The layer over the extended reals, one batch row of one step at a time. A row of length `n` is a function
`Fin n → EReal`. Nothing here mentions a program: the kernel's blocks and the reference's arrays are both shown to
hold these functions. -/

/-- The largest entry of a row, taken from the 32-bit constant minus infinity. -/
def top {n : ℕ} (v : Fin n → EReal) : EReal := Finset.fold max (Ideal.ofBits .f32 4286578688#32) v Finset.univ

/-- The largest absolute value of a row. -/
def amax {n : ℕ} (v : Fin n → EReal) : EReal := top fun k => max (v k) (-(v k))

/-- The scale of a row: its largest absolute value over 127, or 1 for a row of zeros. -/
def scale {n : ℕ} (v : Fin n → EReal) : EReal := if amax v = 0 then 1 else Ideal.div (amax v) (Ideal.ofBits .f32 1123942400#32)

/-- A number rounded to the nearest integer, ties to even, and clipped to [-127, 127]. -/
def clip (y : EReal) : EReal :=
  min (((127#32).toInt : ℝ) : EReal) (max (((4294967169#32).toInt : ℝ) : EReal) (Ideal.liftRound Ideal.roundHalfEven y))

/-- The code of entry `i` of a row, as an extended real. -/
def code {n : ℕ} (v : Fin n → EReal) (i : Fin n) : EReal := clip (Ideal.div (v i) (scale v))

/-- The code of entry `i` of a row, as a signed byte. -/
def word {n : ℕ} (v : Fin n → EReal) (i : Fin n) : BitVec 8 := Ideal.fptosi 8 (code v i)

/-- A quantised row times a matrix of signed bytes, scaled by the row's scale and the column's scale. -/
def proj {n m : ℕ} (v : Fin n → EReal) (w : Fin n → Fin m → BitVec 8) (s : Fin m → EReal) (o : Fin m) : EReal :=
  (∑ k, code v k * (((w k o).toInt : ℝ) : EReal)) * scale v * s o

/-- A row divided by its root mean square (over 1024 entries, with the small constant added) and multiplied by a gain. -/
def norm {n : ℕ} (v gain : Fin n → EReal) (i : Fin n) : EReal :=
  Ideal.div (v i) (Ideal.sqrt (Ideal.div (∑ k, v k * v k) (Ideal.ofBits .f32 1149239296#32) + Ideal.ofBits .f32 925353388#32)) * gain i

/-- `x` times the logistic function of `x`. -/
def silu (x : EReal) : EReal := x * Ideal.logistic x

/-- The logarithm of the sum of the exponentials of a row, its largest entry taken out first. -/
def lse {n : ℕ} (v : Fin n → EReal) : EReal := top v + Ideal.log (∑ k, Ideal.exp (v k - top v))

/-- The entry of a row that an index word names, or zero where it names none. -/
def pick {n : ℕ} (v : Fin n → EReal) (id : BitVec 32) : EReal := ∑ k : Fin n, if BitVec.ofNat 32 k.val = id then v k else 0

/-- A clipped rounding is an integer between -127 and 127. -/
theorem clip_int (y : EReal) : ∃ z : ℤ, -127 ≤ z ∧ z ≤ 127 ∧ clip y = ((z : ℝ) : EReal) := by
  have h127 : (127#32).toInt = 127 := by decide
  have hm127 : (4294967169#32).toInt = -127 := by decide
  unfold clip
  rw [h127, hm127]
  induction y with
  | bot => exact ⟨-127, by norm_num, by norm_num, by
      rw [Ideal.liftRound_bot, max_eq_left bot_le, min_eq_right]; exact_mod_cast (by norm_num : (-127:ℤ) ≤ 127)⟩
  | top => exact ⟨127, by norm_num, by norm_num, by
      rw [Ideal.liftRound_top, max_eq_right le_top, min_eq_left le_top]⟩
  | coe r => exact ⟨min 127 (max (-127) (Ideal.roundHalfEven r)), le_min (by norm_num) (le_max_left _ _), min_le_left _ _, by
      rw [Ideal.liftRound_coe]; push_cast; rfl⟩

/-- The integer an extended real that is an integer within range converts to. -/
theorem fptosi_int (w : ℕ) (z : ℤ) (h1 : -((2 ^ (w - 1) : ℕ) : ℤ) ≤ z) (h2 : z ≤ ((2 ^ (w - 1) : ℕ) : ℤ) - 1) :
    Ideal.fptosi w (((z : ℝ) : EReal)) = BitVec.ofInt w z := by
  unfold Ideal.fptosi
  rw [Ideal.toIntClamped_coe]
  simp only [Int.floor_intCast, Int.ceil_intCast, ite_self]
  congr 1
  rw [min_eq_right h2, max_eq_right h1]

/-- Converting a code to 32 bits and cutting it to 8 is converting it to 8 bits. -/
theorem trunc_clip (y : EReal) : (Ideal.fptosi 32 (clip y)).setWidth 8 = Ideal.fptosi 8 (clip y) := by
  obtain ⟨z, h1, h2, hz⟩ := clip_int y
  rw [hz, fptosi_int 32 z (by norm_num; omega) (by norm_num; omega), fptosi_int 8 z (by norm_num; omega) (by norm_num; omega)]
  apply BitVec.eq_of_toInt_eq
  rw [BitVec.toInt_setWidth, BitVec.toInt_ofInt]
  rw [BitVec.toNat_ofInt]
  simp only [Int.bmod_def]
  norm_num
  omega

/-- A code stored as a signed byte and read back is the code. -/
theorem clip_word (y : EReal) : (((Ideal.fptosi 8 (clip y)).toInt : ℝ) : EReal) = clip y := by
  obtain ⟨z, h1, h2, hz⟩ := clip_int y
  rw [hz, fptosi_int 8 z (by norm_num; omega) (by norm_num; omega), BitVec.toInt_ofInt, Int.bmod_eq_of_le (by norm_num; omega) (by norm_num; omega)]

/-- The signed byte of a code, read as a number, is the code. -/
theorem word_toInt {n : ℕ} (v : Fin n → EReal) (i : Fin n) : (((word v i).toInt : ℝ) : EReal) = code v i := clip_word _

/-- A 32-bit word read as a number and converted back is the word. -/
theorem fptosi_toInt (b : BitVec 32) : Ideal.fptosi 32 (((b.toInt : ℝ) : EReal)) = b := by
  rw [fptosi_int 32 b.toInt (by have := b.le_toInt; norm_num at *; omega) (by have := b.toInt_lt; norm_num at *; omega), BitVec.ofInt_toInt]

end Cert.Rows
-- ==== Proof.Layer.lean ====
module

public import proofs.«01_k».proof.Proof.Rows

@[expose] public section

noncomputable section
open Idealize.ShloMosaic

namespace Cert.Rows

/-! The whole output-projection / feed-forward / head layer, as functions of its arguments: step `t`, batch row `b`. -/

/-- The arguments of the layer: ids, attention output, residual input, and each projection's signed bytes and scales. -/
structure Args where
  ids : Fin 40 → Fin 31 → BitVec 32
  attn : Fin 31 → Fin 40 → Fin 1024 → EReal
  x : Fin 31 → Fin 40 → Fin 1024 → EReal
  wo : Fin 31 → Fin 1024 → Fin 1024 → BitVec 8
  so : Fin 31 → Fin 1024 → EReal
  gain : Fin 1024 → EReal
  w1 : Fin 31 → Fin 1024 → Fin 8192 → BitVec 8
  s1 : Fin 31 → Fin 8192 → EReal
  w2 : Fin 31 → Fin 4096 → Fin 1024 → BitVec 8
  s2 : Fin 31 → Fin 1024 → EReal
  wh : Fin 31 → Fin 1024 → Fin 2051 → BitVec 8
  sh : Fin 31 → Fin 2051 → EReal

namespace Args
variable (A : Args) (t : Fin 31) (b : Fin 40)

/-- The residual row after the output projection of the quantised attention row. -/
def x1 (o : Fin 1024) : EReal := A.x t b o + proj (A.attn t b) (A.wo t) (A.so t) o

/-- That row normalised, with the gain. -/
def n (i : Fin 1024) : EReal := norm (A.x1 t b) A.gain i

/-- The first feed-forward projection of the quantised normalised row: 4096 gate columns, then 4096 more. -/
def ff (j : Fin 8192) : EReal := proj (A.n t b) (A.w1 t) (A.s1 t) j

/-- The gated product: silu of a gate column times the matching column of the second half. -/
def g (j : Fin 4096) : EReal := silu (A.ff t b ⟨j.val, by omega⟩) * A.ff t b ⟨4096 + j.val, by omega⟩

/-- The residual row after the second feed-forward projection of the quantised gated product. -/
def x2 (o : Fin 1024) : EReal := A.x1 t b o + proj (A.g t b) (A.w2 t) (A.s2 t) o

/-- The logits: the head projection of the quantised residual row. -/
def logits (o : Fin 2051) : EReal := proj (A.x2 t b) (A.wh t) (A.sh t) o

/-- The log probability of the id of the row: its logit less the logarithm of the sum of exponentials. -/
def logp : EReal := pick (A.logits t b) (A.ids b t) - lse (A.logits t b)

end Args

/-- A quantity of every step and batch row, laid out with a row per batch row and a column per step, zero in the
columns beyond the steps. -/
def cols (f : Fin 31 → Fin 40 → EReal) (b : Fin 40) (l : Fin 128) : EReal := if h : l.val < 31 then f ⟨l.val, h⟩ b else 0

end Cert.Rows
-- ==== Proof.Ref.lean ====
module

public import proofs.«01_k».proof.Proof.Gen.MlpRefIdeal.Read
public import proofs.«01_k».proof.Proof.Layer

@[expose] public section

set_option maxRecDepth 16384
noncomputable section
open Idealize.ShloMosaic Idealize.SL.Sem
namespace Cert.MlpRefIdeal.Ref
open Cert.MlpRefIdeal Cert.MlpRefIdeal.Read Cert.Rows

/-! What each array of the reference holds, entry by entry, as the layer's functions of the arguments. -/

/-- A signed byte widened to 32 bits and read as a number is its integer. -/
theorem sitofp_ext {φ : FTy} (w : BitVec 8) : FloatOps.sitofp (F := Ideal) φ (w.signExtend 32) = ((w.toInt : ℝ) : EReal) := by
  show (((w.signExtend 32).toInt : ℝ) : EReal) = _
  rw [BitVec.toInt_signExtend_of_le (by norm_num)]

/-- A choice between 1 and a quotient by 127 on whether a number is zero. -/
theorem select_scale (y : EReal) :
    Scalar.select (FloatOps.cmpf (F := Ideal) (φ := .f32) CmpFPredicate.oeq y (FloatOps.ofBits .f32 0#32)) (FloatOps.ofBits (F := Ideal) .f32 1065353216#32)
      (FloatOps.hostDivf (F := Ideal) (φ := .f32) y (FloatOps.ofBits .f32 1123942400#32))
      = if y = 0 then 1 else Ideal.div y (Ideal.ofBits .f32 1123942400#32) := by
  show Scalar.select (Ideal.cmp CmpFPredicate.oeq y (Ideal.ofBits .f32 0#32)) (Ideal.ofBits .f32 1065353216#32)
    (Ideal.div y (Ideal.ofBits .f32 1123942400#32)) = _
  rw [Ideal.ofBits_zero_f32, Ideal.ofBits_one_f32]
  unfold Scalar.select Ideal.cmp
  by_cases h : y = 0 <;> simp [h]

/-- The largest absolute value, in the host's operations. -/
theorem amax_eq {n : ℕ} (v : Fin n → EReal) :
    Finset.fold max (Ideal.ofBits .f32 4286578688#32) (fun k => FloatOps.absf (F := Ideal) (φ := .f32) (v k)) Finset.univ = amax v := rfl

/-- The division, rounding and clipping of an entry, in the host's operations. -/
theorem clip_eq (y s : EReal) : FloatOps.minimumf (F := Ideal) (φ := .f32) (FloatOps.sitofp .f32 127#32)
    (FloatOps.maximumf (FloatOps.sitofp .f32 4294967169#32) (FloatOps.hostUnary .roundeven (FloatOps.hostDivf y s)))
      = clip (Ideal.div y s) := rfl

/-- The gate of a product, in the host's operations. -/
theorem silu_eq (y z : EReal) : FloatOps.mulf (F := Ideal) (φ := .f32) (FloatOps.mulf y (FloatOps.hostDivf (FloatOps.ofBits .f32 1065353216#32)
    (FloatOps.addf (FloatOps.ofBits .f32 1065353216#32) (FloatOps.hostUnary .exp (FloatOps.hostNegf y))))) z = silu y * z := by
  show y * Ideal.div (Ideal.ofBits .f32 1065353216#32) (Ideal.ofBits .f32 1065353216#32 + Ideal.exp (-y)) * z = _
  rw [Ideal.ofBits_one_f32]
  rfl

variable (x0 : (⟨S40x31, .i32⟩ : BufTy).Contents (Elt Ideal)) (x1 x2 : (⟨S31x40x1024, .f32⟩ : BufTy).Contents (Elt Ideal))
  (x3 : (⟨S31x1024x1024, .i8⟩ : BufTy).Contents (Elt Ideal)) (x4 : (⟨S31x1024, .f32⟩ : BufTy).Contents (Elt Ideal))
  (x5 : (⟨S1024, .f32⟩ : BufTy).Contents (Elt Ideal)) (x6 : (⟨S31x1024x8192, .i8⟩ : BufTy).Contents (Elt Ideal))
  (x7 : (⟨S31x8192, .f32⟩ : BufTy).Contents (Elt Ideal)) (x8 : (⟨S31x4096x1024, .i8⟩ : BufTy).Contents (Elt Ideal))
  (x9 : (⟨S31x1024, .f32⟩ : BufTy).Contents (Elt Ideal)) (x10 : (⟨S31x1024x2051, .i8⟩ : BufTy).Contents (Elt Ideal))
  (x11 : (⟨S31x2051, .f32⟩ : BufTy).Contents (Elt Ideal))

/-- The layer's arguments, read off the twelve arrays. -/
def args : Args where
  ids b t := x0 (ix2 b t)
  attn t b i := x1 (ix3 t b i)
  x t b i := x2 (ix3 t b i)
  wo t i o := x3 (ix3 t i o)
  so t o := x4 (ix2 t o)
  gain i := x5 (ix1 i)
  w1 t i o := x6 (ix3 t i o)
  s1 t o := x7 (ix2 t o)
  w2 t i o := x8 (ix3 t i o)
  s2 t o := x9 (ix2 t o)
  wh t i o := x10 (ix3 t i o)
  sh t o := x11 (ix2 t o)

/-- The largest absolute value of the attention rows. -/
theorem amaxv1 (t : Fin 31) (b : Fin 40) : val_main_v1 x1 (ix2 t b) = amax ((args x0 x1 x2 x3 x4 x5 x6 x7 x8 x9 x10 x11).attn t b) := by
  unfold val_main_v1
  have e : ∀ i, val_main_v0 x1 (ix3 t b i) = FloatOps.absf (F := Ideal) (φ := .f32) (((args x0 x1 x2 x3 x4 x5 x6 x7 x8 x9 x10 x11).attn t b) i) := by
    intro i
    rw [val_main_v0_apply]
    rfl
  revert e
  generalize val_main_v0 (F := Ideal) x1 = y
  intro e
  pointwise [val_main_cst]
  simp only [e]
  exact amax_eq _
/-- The scale of the attention rows. -/
theorem scalev6 (t : Fin 31) (b : Fin 40) : val_main_v6 x1 (ix2 t b) = scale ((args x0 x1 x2 x3 x4 x5 x6 x7 x8 x9 x10 x11).attn t b) := by
  rw [val_main_v6_apply, val_main_v3_apply, val_main_v5_apply, amaxv1 x0 x1 x2 x3 x4 x5 x6 x7 x8 x9 x10 x11]
  simp only [val_main_cst_0_apply, val_main_v2_apply, val_main_cst_1_apply, val_main_v4_apply, val_main_cst_2_apply, val_main_call0_v0_apply, val_main_call0_v1_apply]
  exact select_scale _
/-- The clipped rounding of the attention rows. -/
theorem codev11 (t : Fin 31) (b : Fin 40) (i : Fin 1024) : val_main_v11 x1 (ix3 t b i) = code ((args x0 x1 x2 x3 x4 x5 x6 x7 x8 x9 x10 x11).attn t b) i := by
  rw [val_main_v11_apply, val_main_call2_v2_apply, val_main_v10_apply, val_main_v9_apply, val_main_v8_apply, val_main_v7_apply]
  simp only [val_main_c_apply, val_main_c_3_apply, val_main_call2_v0_apply, val_main_call2_v1_apply, val_main_call2_v3_apply, val_main_call2_v4_apply]
  rw [show idx_main_v7 (idx_main_v8 (ix3 t b i)) = ix2 t b from by funext a; fin_cases a <;> rfl, scalev6 x0 x1 x2 x3 x4 x5 x6 x7 x8 x9 x10 x11]
  exact clip_eq _ _
/-- The codes of the attention rows. -/
theorem wordv13 (t : Fin 31) (b : Fin 40) (i : Fin 1024) : val_main_v13 x1 (ix3 t b i) = word ((args x0 x1 x2 x3 x4 x5 x6 x7 x8 x9 x10 x11).attn t b) i := by
  pointwise [val_main_v12, val_main_v13]; rw [codev11 x0 x1 x2 x3 x4 x5 x6 x7 x8 x9 x10 x11]; exact trunc_clip _
/-- The codes of the attention rows, as numbers again. -/
theorem numv15 (t : Fin 31) (b : Fin 40) (i : Fin 1024) : val_main_v15 x1 (ix3 t b i) = code ((args x0 x1 x2 x3 x4 x5 x6 x7 x8 x9 x10 x11).attn t b) i := by
  pointwise [val_main_v14, val_main_v15]; rw [wordv13 x0 x1 x2 x3 x4 x5 x6 x7 x8 x9 x10 x11, sitofp_ext]; exact word_toInt _ _

/-- The residual rows after the output projection. -/
theorem x1v25 (t : Fin 31) (b : Fin 40) (o : Fin 1024) : val_main_v25 x1 x2 x3 x4 (ix3 t b o) = (args x0 x1 x2 x3 x4 x5 x6 x7 x8 x9 x10 x11).x1 t b o := by
  have e : ∀ q : Fin 1024, val_main_v15 x1 (lidx_main_v18 (ix3 t b o) q) * val_main_v17 x3 (ridx_main_v18 (ix3 t b o) q)
      = code ((args x0 x1 x2 x3 x4 x5 x6 x7 x8 x9 x10 x11).attn t b) q * (((x3 (ix3 t q o)).toInt : ℝ) : EReal) := by
    intro q
    rw [show lidx_main_v18 (ix3 t b o) q = ix3 t b q from by funext a; fin_cases a <;> rfl,
      show ridx_main_v18 (ix3 t b o) q = ix3 t q o from by funext a; fin_cases a <;> rfl, numv15 x0 x1 x2 x3 x4 x5 x6 x7 x8 x9 x10 x11, val_main_v17_apply, val_main_v16_apply, sitofp_ext]
  rw [val_main_v25_apply, val_main_v24_apply, val_main_v21_apply, val_main_v18_apply, val_main_v20_apply, val_main_v19_apply, val_main_v23_apply, val_main_v22_apply]
  simp only [e]
  rw [show idx_main_v19 (idx_main_v20 (ix3 t b o)) = ix2 t b from by funext a; fin_cases a <;> rfl,
    show idx_main_v22 (idx_main_v23 (ix3 t b o)) = ix2 t o from by funext a; fin_cases a <;> rfl, scalev6 x0 x1 x2 x3 x4 x5 x6 x7 x8 x9 x10 x11]
  rfl
/-- The normalised rows. -/
theorem nv38 (t : Fin 31) (b : Fin 40) (i : Fin 1024) : val_main_v38 x1 x2 x3 x4 x5 (ix3 t b i) = (args x0 x1 x2 x3 x4 x5 x6 x7 x8 x9 x10 x11).n t b i := by
  pointwise [val_main_v26, val_main_cst_4, val_main_v27, val_main_v28, val_main_cst_5, val_main_v29, val_main_v30, val_main_cst_6, val_main_v31, val_main_v32, val_main_v33, val_main_v34, val_main_v35, val_main_v36, val_main_v37, val_main_v38]
  simp only [x1v25 x0 x1 x2 x3 x4 x5 x6 x7 x8 x9 x10 x11, Ideal.ofBits_zero_f32, zero_add]
  rfl

/-- The largest absolute value of the normalised rows. -/
theorem amaxv40 (t : Fin 31) (b : Fin 40) : val_main_v40 x1 x2 x3 x4 x5 (ix2 t b) = amax ((args x0 x1 x2 x3 x4 x5 x6 x7 x8 x9 x10 x11).n t b) := by
  unfold val_main_v40
  have e : ∀ i, val_main_v39 x1 x2 x3 x4 x5 (ix3 t b i) = FloatOps.absf (F := Ideal) (φ := .f32) (((args x0 x1 x2 x3 x4 x5 x6 x7 x8 x9 x10 x11).n t b) i) := by
    intro i
    rw [val_main_v39_apply, nv38 x0 x1 x2 x3 x4 x5 x6 x7 x8 x9 x10 x11]
    rfl
  revert e
  generalize val_main_v39 (F := Ideal) x1 x2 x3 x4 x5 = y
  intro e
  pointwise [val_main_cst_7]
  simp only [e]
  exact amax_eq _
/-- The scale of the normalised rows. -/
theorem scalev45 (t : Fin 31) (b : Fin 40) : val_main_v45 x1 x2 x3 x4 x5 (ix2 t b) = scale ((args x0 x1 x2 x3 x4 x5 x6 x7 x8 x9 x10 x11).n t b) := by
  rw [val_main_v45_apply, val_main_v42_apply, val_main_v44_apply, amaxv40 x0 x1 x2 x3 x4 x5 x6 x7 x8 x9 x10 x11]
  simp only [val_main_cst_8_apply, val_main_v41_apply, val_main_cst_9_apply, val_main_v43_apply, val_main_cst_10_apply, val_main_call3_v0_apply, val_main_call3_v1_apply]
  exact select_scale _
/-- The clipped rounding of the normalised rows. -/
theorem codev50 (t : Fin 31) (b : Fin 40) (i : Fin 1024) : val_main_v50 x1 x2 x3 x4 x5 (ix3 t b i) = code ((args x0 x1 x2 x3 x4 x5 x6 x7 x8 x9 x10 x11).n t b) i := by
  rw [val_main_v50_apply, val_main_call5_v2_apply, val_main_v49_apply, val_main_v48_apply, val_main_v47_apply, val_main_v46_apply]
  simp only [val_main_c_11_apply, val_main_c_12_apply, val_main_call5_v0_apply, val_main_call5_v1_apply, val_main_call5_v3_apply, val_main_call5_v4_apply]
  rw [show idx_main_v46 (idx_main_v47 (ix3 t b i)) = ix2 t b from by funext a; fin_cases a <;> rfl, scalev45 x0 x1 x2 x3 x4 x5 x6 x7 x8 x9 x10 x11, nv38 x0 x1 x2 x3 x4 x5 x6 x7 x8 x9 x10 x11]
  exact clip_eq _ _
/-- The codes of the normalised rows. -/
theorem wordv52 (t : Fin 31) (b : Fin 40) (i : Fin 1024) : val_main_v52 x1 x2 x3 x4 x5 (ix3 t b i) = word ((args x0 x1 x2 x3 x4 x5 x6 x7 x8 x9 x10 x11).n t b) i := by
  pointwise [val_main_v51, val_main_v52]; rw [codev50 x0 x1 x2 x3 x4 x5 x6 x7 x8 x9 x10 x11]; exact trunc_clip _
/-- The codes of the normalised rows, as numbers again. -/
theorem numv54 (t : Fin 31) (b : Fin 40) (i : Fin 1024) : val_main_v54 x1 x2 x3 x4 x5 (ix3 t b i) = code ((args x0 x1 x2 x3 x4 x5 x6 x7 x8 x9 x10 x11).n t b) i := by
  pointwise [val_main_v53, val_main_v54]; rw [wordv52 x0 x1 x2 x3 x4 x5 x6 x7 x8 x9 x10 x11, sitofp_ext]; exact word_toInt _ _

/-- The first feed-forward projection. -/
theorem ffv63 (t : Fin 31) (b : Fin 40) (o : Fin 8192) : val_main_v63 x1 x2 x3 x4 x5 x6 x7 (ix3 t b o) = (args x0 x1 x2 x3 x4 x5 x6 x7 x8 x9 x10 x11).ff t b o := by
  have e : ∀ q : Fin 1024, val_main_v54 x1 x2 x3 x4 x5 (lidx_main_v57 (ix3 t b o) q) * val_main_v56 x6 (ridx_main_v57 (ix3 t b o) q)
      = code ((args x0 x1 x2 x3 x4 x5 x6 x7 x8 x9 x10 x11).n t b) q * (((x6 (ix3 t q o)).toInt : ℝ) : EReal) := by
    intro q
    rw [show lidx_main_v57 (ix3 t b o) q = ix3 t b q from by funext a; fin_cases a <;> rfl,
      show ridx_main_v57 (ix3 t b o) q = ix3 t q o from by funext a; fin_cases a <;> rfl, numv54 x0 x1 x2 x3 x4 x5 x6 x7 x8 x9 x10 x11, val_main_v56_apply, val_main_v55_apply, sitofp_ext]
  rw [val_main_v63_apply, val_main_v60_apply, val_main_v57_apply, val_main_v59_apply, val_main_v58_apply, val_main_v62_apply, val_main_v61_apply]
  simp only [e]
  rw [show idx_main_v58 (idx_main_v59 (ix3 t b o)) = ix2 t b from by funext a; fin_cases a <;> rfl,
    show idx_main_v61 (idx_main_v62 (ix3 t b o)) = ix2 t o from by funext a; fin_cases a <;> rfl, scalev45 x0 x1 x2 x3 x4 x5 x6 x7 x8 x9 x10 x11]
  rfl
/-- The gated product. -/
theorem gv67 (t : Fin 31) (b : Fin 40) (j : Fin 4096) : val_main_v67 x1 x2 x3 x4 x5 x6 x7 (ix3 t b j) = (args x0 x1 x2 x3 x4 x5 x6 x7 x8 x9 x10 x11).g t b j := by
  rw [val_main_v67_apply, val_main_v65_apply, val_main_call6_v5_apply, val_main_call6_v3_apply, val_main_call6_v1_apply, val_main_call6_v0_apply,
    val_main_v64_apply, val_main_v66_apply]
  simp only [val_main_call6_v4_apply, val_main_call6_v2_apply, val_main_call6_cst_apply, val_main_call6_cst_0_apply]
  rw [show idx_main_v64 (ix3 t b j) = ix3 t b ⟨j.val, by omega⟩ from by funext a; fin_cases a <;> rfl,
    show idx_main_v66 (ix3 t b j) = ix3 t b ⟨4096 + j.val, by omega⟩ from by funext a; fin_cases a <;> rfl, ffv63 x0 x1 x2 x3 x4 x5 x6 x7 x8 x9 x10 x11, ffv63 x0 x1 x2 x3 x4 x5 x6 x7 x8 x9 x10 x11]
  exact silu_eq _ _

/-- The largest absolute value of the gated product. -/
theorem amaxv69 (t : Fin 31) (b : Fin 40) : val_main_v69 x1 x2 x3 x4 x5 x6 x7 (ix2 t b) = amax ((args x0 x1 x2 x3 x4 x5 x6 x7 x8 x9 x10 x11).g t b) := by
  unfold val_main_v69
  have e : ∀ i, val_main_v68 x1 x2 x3 x4 x5 x6 x7 (ix3 t b i) = FloatOps.absf (F := Ideal) (φ := .f32) (((args x0 x1 x2 x3 x4 x5 x6 x7 x8 x9 x10 x11).g t b) i) := by
    intro i
    rw [val_main_v68_apply, gv67 x0 x1 x2 x3 x4 x5 x6 x7 x8 x9 x10 x11]
    rfl
  revert e
  generalize val_main_v68 (F := Ideal) x1 x2 x3 x4 x5 x6 x7 = y
  intro e
  pointwise [val_main_cst_13]
  simp only [e]
  exact amax_eq _
/-- The scale of the gated product. -/
theorem scalev74 (t : Fin 31) (b : Fin 40) : val_main_v74 x1 x2 x3 x4 x5 x6 x7 (ix2 t b) = scale ((args x0 x1 x2 x3 x4 x5 x6 x7 x8 x9 x10 x11).g t b) := by
  rw [val_main_v74_apply, val_main_v71_apply, val_main_v73_apply, amaxv69 x0 x1 x2 x3 x4 x5 x6 x7 x8 x9 x10 x11]
  simp only [val_main_cst_14_apply, val_main_v70_apply, val_main_cst_15_apply, val_main_v72_apply, val_main_cst_16_apply, val_main_call7_v0_apply, val_main_call7_v1_apply]
  exact select_scale _
/-- The clipped rounding of the gated product. -/
theorem codev79 (t : Fin 31) (b : Fin 40) (i : Fin 4096) : val_main_v79 x1 x2 x3 x4 x5 x6 x7 (ix3 t b i) = code ((args x0 x1 x2 x3 x4 x5 x6 x7 x8 x9 x10 x11).g t b) i := by
  rw [val_main_v79_apply, val_main_call9_v2_apply, val_main_v78_apply, val_main_v77_apply, val_main_v76_apply, val_main_v75_apply]
  simp only [val_main_c_17_apply, val_main_c_18_apply, val_main_call9_v0_apply, val_main_call9_v1_apply, val_main_call9_v3_apply, val_main_call9_v4_apply]
  rw [show idx_main_v75 (idx_main_v76 (ix3 t b i)) = ix2 t b from by funext a; fin_cases a <;> rfl, scalev74 x0 x1 x2 x3 x4 x5 x6 x7 x8 x9 x10 x11, gv67 x0 x1 x2 x3 x4 x5 x6 x7 x8 x9 x10 x11]
  exact clip_eq _ _
/-- The codes of the gated product. -/
theorem wordv81 (t : Fin 31) (b : Fin 40) (i : Fin 4096) : val_main_v81 x1 x2 x3 x4 x5 x6 x7 (ix3 t b i) = word ((args x0 x1 x2 x3 x4 x5 x6 x7 x8 x9 x10 x11).g t b) i := by
  pointwise [val_main_v80, val_main_v81]; rw [codev79 x0 x1 x2 x3 x4 x5 x6 x7 x8 x9 x10 x11]; exact trunc_clip _
/-- The codes of the gated product, as numbers again. -/
theorem numv83 (t : Fin 31) (b : Fin 40) (i : Fin 4096) : val_main_v83 x1 x2 x3 x4 x5 x6 x7 (ix3 t b i) = code ((args x0 x1 x2 x3 x4 x5 x6 x7 x8 x9 x10 x11).g t b) i := by
  pointwise [val_main_v82, val_main_v83]; rw [wordv81 x0 x1 x2 x3 x4 x5 x6 x7 x8 x9 x10 x11, sitofp_ext]; exact word_toInt _ _

/-- The residual rows after the second feed-forward projection. -/
theorem x2v93 (t : Fin 31) (b : Fin 40) (o : Fin 1024) : val_main_v93 x1 x2 x3 x4 x5 x6 x7 x8 x9 (ix3 t b o) = (args x0 x1 x2 x3 x4 x5 x6 x7 x8 x9 x10 x11).x2 t b o := by
  have e : ∀ q : Fin 4096, val_main_v83 x1 x2 x3 x4 x5 x6 x7 (lidx_main_v86 (ix3 t b o) q) * val_main_v85 x8 (ridx_main_v86 (ix3 t b o) q)
      = code ((args x0 x1 x2 x3 x4 x5 x6 x7 x8 x9 x10 x11).g t b) q * (((x8 (ix3 t q o)).toInt : ℝ) : EReal) := by
    intro q
    rw [show lidx_main_v86 (ix3 t b o) q = ix3 t b q from by funext a; fin_cases a <;> rfl,
      show ridx_main_v86 (ix3 t b o) q = ix3 t q o from by funext a; fin_cases a <;> rfl, numv83 x0 x1 x2 x3 x4 x5 x6 x7 x8 x9 x10 x11, val_main_v85_apply, val_main_v84_apply, sitofp_ext]
  rw [val_main_v93_apply, val_main_v92_apply, val_main_v89_apply, val_main_v86_apply, val_main_v88_apply, val_main_v87_apply, val_main_v91_apply, val_main_v90_apply]
  simp only [e]
  rw [show idx_main_v87 (idx_main_v88 (ix3 t b o)) = ix2 t b from by funext a; fin_cases a <;> rfl,
    show idx_main_v90 (idx_main_v91 (ix3 t b o)) = ix2 t o from by funext a; fin_cases a <;> rfl, scalev74 x0 x1 x2 x3 x4 x5 x6 x7 x8 x9 x10 x11, x1v25 x0 x1 x2 x3 x4 x5 x6 x7 x8 x9 x10 x11]
  rfl

/-- The largest absolute value of the last residual rows. -/
theorem amaxv95 (t : Fin 31) (b : Fin 40) : val_main_v95 x1 x2 x3 x4 x5 x6 x7 x8 x9 (ix2 t b) = amax ((args x0 x1 x2 x3 x4 x5 x6 x7 x8 x9 x10 x11).x2 t b) := by
  unfold val_main_v95
  have e : ∀ i, val_main_v94 x1 x2 x3 x4 x5 x6 x7 x8 x9 (ix3 t b i) = FloatOps.absf (F := Ideal) (φ := .f32) (((args x0 x1 x2 x3 x4 x5 x6 x7 x8 x9 x10 x11).x2 t b) i) := by
    intro i
    rw [val_main_v94_apply, x2v93 x0 x1 x2 x3 x4 x5 x6 x7 x8 x9 x10 x11]
    rfl
  revert e
  generalize val_main_v94 (F := Ideal) x1 x2 x3 x4 x5 x6 x7 x8 x9 = y
  intro e
  pointwise [val_main_cst_19]
  simp only [e]
  exact amax_eq _
/-- The scale of the last residual rows. -/
theorem scalev100 (t : Fin 31) (b : Fin 40) : val_main_v100 x1 x2 x3 x4 x5 x6 x7 x8 x9 (ix2 t b) = scale ((args x0 x1 x2 x3 x4 x5 x6 x7 x8 x9 x10 x11).x2 t b) := by
  rw [val_main_v100_apply, val_main_v97_apply, val_main_v99_apply, amaxv95 x0 x1 x2 x3 x4 x5 x6 x7 x8 x9 x10 x11]
  simp only [val_main_cst_20_apply, val_main_v96_apply, val_main_cst_21_apply, val_main_v98_apply, val_main_cst_22_apply, val_main_call10_v0_apply, val_main_call10_v1_apply]
  exact select_scale _
/-- The clipped rounding of the last residual rows. -/
theorem codev105 (t : Fin 31) (b : Fin 40) (i : Fin 1024) : val_main_v105 x1 x2 x3 x4 x5 x6 x7 x8 x9 (ix3 t b i) = code ((args x0 x1 x2 x3 x4 x5 x6 x7 x8 x9 x10 x11).x2 t b) i := by
  rw [val_main_v105_apply, val_main_call12_v2_apply, val_main_v104_apply, val_main_v103_apply, val_main_v102_apply, val_main_v101_apply]
  simp only [val_main_c_23_apply, val_main_c_24_apply, val_main_call12_v0_apply, val_main_call12_v1_apply, val_main_call12_v3_apply, val_main_call12_v4_apply]
  rw [show idx_main_v101 (idx_main_v102 (ix3 t b i)) = ix2 t b from by funext a; fin_cases a <;> rfl, scalev100 x0 x1 x2 x3 x4 x5 x6 x7 x8 x9 x10 x11, x2v93 x0 x1 x2 x3 x4 x5 x6 x7 x8 x9 x10 x11]
  exact clip_eq _ _
/-- The codes of the last residual rows. -/
theorem wordv107 (t : Fin 31) (b : Fin 40) (i : Fin 1024) : val_main_v107 x1 x2 x3 x4 x5 x6 x7 x8 x9 (ix3 t b i) = word ((args x0 x1 x2 x3 x4 x5 x6 x7 x8 x9 x10 x11).x2 t b) i := by
  pointwise [val_main_v106, val_main_v107]; rw [codev105 x0 x1 x2 x3 x4 x5 x6 x7 x8 x9 x10 x11]; exact trunc_clip _
/-- The codes of the last residual rows, as numbers again. -/
theorem numv109 (t : Fin 31) (b : Fin 40) (i : Fin 1024) : val_main_v109 x1 x2 x3 x4 x5 x6 x7 x8 x9 (ix3 t b i) = code ((args x0 x1 x2 x3 x4 x5 x6 x7 x8 x9 x10 x11).x2 t b) i := by
  pointwise [val_main_v108, val_main_v109]; rw [wordv107 x0 x1 x2 x3 x4 x5 x6 x7 x8 x9 x10 x11, sitofp_ext]; exact word_toInt _ _

/-- The logits. -/
theorem logitsv118 (t : Fin 31) (b : Fin 40) (o : Fin 2051) : val_main_v118 x1 x2 x3 x4 x5 x6 x7 x8 x9 x10 x11 (ix3 t b o) = (args x0 x1 x2 x3 x4 x5 x6 x7 x8 x9 x10 x11).logits t b o := by
  have e : ∀ q : Fin 1024, val_main_v109 x1 x2 x3 x4 x5 x6 x7 x8 x9 (lidx_main_v112 (ix3 t b o) q) * val_main_v111 x10 (ridx_main_v112 (ix3 t b o) q)
      = code ((args x0 x1 x2 x3 x4 x5 x6 x7 x8 x9 x10 x11).x2 t b) q * (((x10 (ix3 t q o)).toInt : ℝ) : EReal) := by
    intro q
    rw [show lidx_main_v112 (ix3 t b o) q = ix3 t b q from by funext a; fin_cases a <;> rfl,
      show ridx_main_v112 (ix3 t b o) q = ix3 t q o from by funext a; fin_cases a <;> rfl, numv109 x0 x1 x2 x3 x4 x5 x6 x7 x8 x9 x10 x11, val_main_v111_apply, val_main_v110_apply, sitofp_ext]
  rw [val_main_v118_apply, val_main_v115_apply, val_main_v112_apply, val_main_v114_apply, val_main_v113_apply, val_main_v117_apply, val_main_v116_apply]
  simp only [e]
  rw [show idx_main_v113 (idx_main_v114 (ix3 t b o)) = ix2 t b from by funext a; fin_cases a <;> rfl,
    show idx_main_v116 (idx_main_v117 (ix3 t b o)) = ix2 t o from by funext a; fin_cases a <;> rfl, scalev100 x0 x1 x2 x3 x4 x5 x6 x7 x8 x9 x10 x11]
  rfl
/-- The hidden state: the last residual rows. -/
theorem hiddenv119 (t : Fin 31) (b : Fin 40) (o : Fin 1024) : val_main_v119 x1 x2 x3 x4 x5 x6 x7 x8 x9 (ix3 t b o) = (args x0 x1 x2 x3 x4 x5 x6 x7 x8 x9 x10 x11).x2 t b o := by
  pointwise [val_main_v119]
  rw [x2v93 x0 x1 x2 x3 x4 x5 x6 x7 x8 x9 x10 x11]
/-- The largest logit of a row. -/
theorem topv120 (t : Fin 31) (b : Fin 40) : val_main_v120 x1 x2 x3 x4 x5 x6 x7 x8 x9 x10 x11 (ix2 t b) = top ((args x0 x1 x2 x3 x4 x5 x6 x7 x8 x9 x10 x11).logits t b) := by
  pointwise [val_main_cst_25, val_main_v120]
  simp only [logitsv118 x0 x1 x2 x3 x4 x5 x6 x7 x8 x9 x10 x11]
  rfl
/-- The exponential of a logit less the largest. -/
theorem expv124 (t : Fin 31) (b : Fin 40) (k : Fin 2051) :
    val_main_v124 x1 x2 x3 x4 x5 x6 x7 x8 x9 x10 x11 (ix3 t b k) = Ideal.exp ((args x0 x1 x2 x3 x4 x5 x6 x7 x8 x9 x10 x11).logits t b k - top ((args x0 x1 x2 x3 x4 x5 x6 x7 x8 x9 x10 x11).logits t b)) := by
  rw [val_main_v124_apply, val_main_v123_apply, val_main_v122_apply, val_main_v121_apply, logitsv118 x0 x1 x2 x3 x4 x5 x6 x7 x8 x9 x10 x11,
    show idx_main_v121 (idx_main_v122 (ix3 t b k)) = ix2 t b from by funext a; fin_cases a <;> rfl, topv120 x0 x1 x2 x3 x4 x5 x6 x7 x8 x9 x10 x11]
  rfl
/-- The logarithm of the sum of exponentials. -/
theorem lsev127 (t : Fin 31) (b : Fin 40) : val_main_v127 x1 x2 x3 x4 x5 x6 x7 x8 x9 x10 x11 (ix2 t b) = lse ((args x0 x1 x2 x3 x4 x5 x6 x7 x8 x9 x10 x11).logits t b) := by
  rw [val_main_v127_apply, val_main_v126_apply, val_main_v125_apply, topv120 x0 x1 x2 x3 x4 x5 x6 x7 x8 x9 x10 x11]
  have e : ∀ k : Fin 2051, val_main_v124 x1 x2 x3 x4 x5 x6 x7 x8 x9 x10 x11 (idx_main_v125 (ix2 t b) k) = Ideal.exp ((args x0 x1 x2 x3 x4 x5 x6 x7 x8 x9 x10 x11).logits t b k - top ((args x0 x1 x2 x3 x4 x5 x6 x7 x8 x9 x10 x11).logits t b)) := by
    intro k
    rw [show idx_main_v125 (ix2 t b) k = ix3 t b k from by funext a; fin_cases a <;> rfl, expv124 x0 x1 x2 x3 x4 x5 x6 x7 x8 x9 x10 x11]
  simp only [e, val_main_cst_26_apply]
  show top _ + Ideal.log (Ideal.ofBits .f32 0#32 + _) = _
  rw [Ideal.ofBits_zero_f32, zero_add]
  rfl
/-- The log probability. -/
theorem logpv137 (t : Fin 31) (b : Fin 40) : val_main_v137 x0 x1 x2 x3 x4 x5 x6 x7 x8 x9 x10 x11 (ix2 t b) = (args x0 x1 x2 x3 x4 x5 x6 x7 x8 x9 x10 x11).logp t b := by
  rw [val_main_v137_apply, val_main_v136_apply, lsev127 x0 x1 x2 x3 x4 x5 x6 x7 x8 x9 x10 x11]
  have e : ∀ k : Fin 2051, val_main_v135 x0 x1 x2 x3 x4 x5 x6 x7 x8 x9 x10 x11 (idx_main_v136 (ix2 t b) k)
      = Scalar.select (IntOp.cmpi .eq (BitVec.ofNat 32 k.val) (x0 (ix2 b t))) ((args x0 x1 x2 x3 x4 x5 x6 x7 x8 x9 x10 x11).logits t b k) 0 := by
    intro k
    rw [show idx_main_v136 (ix2 t b) k = ix3 t b k from by funext a; fin_cases a <;> rfl, val_main_v135_apply, val_main_v134_apply, logitsv118 x0 x1 x2 x3 x4 x5 x6 x7 x8 x9 x10 x11]
    rw [val_main_v132_apply, val_main_v131_apply, val_main_v128_apply, val_main_v133_apply, val_main_v130_apply, val_main_v129_apply,
      val_main_call13_v1_apply, val_main_call13_v0_apply, val_main_cst_27_apply,
      show idx_main_v129 (idx_main_v130 (idx_main_v133 (ix3 t b k))) = ix2 b t from by funext a; fin_cases a <;> rfl]
    show Scalar.select _ _ (Ideal.ofBits .f32 0#32) = _
    rw [Ideal.ofBits_zero_f32]
    rfl
  simp only [e, val_main_cst_28_apply]
  show (Ideal.ofBits .f32 0#32 + _) - _ = _
  rw [Ideal.ofBits_zero_f32, zero_add]
  refine congrArg (· - lse ((args x0 x1 x2 x3 x4 x5 x6 x7 x8 x9 x10 x11).logits t b)) (Finset.sum_congr rfl fun k _ => ?_)
  by_cases h : BitVec.ofNat 32 k.val = x0 (ix2 b t)
  · rw [if_pos (show BitVec.ofNat 32 k.val = (args x0 x1 x2 x3 x4 x5 x6 x7 x8 x9 x10 x11).ids b t from h), h]; simp [IntOp.cmpi, Scalar.select]
  · rw [if_neg (show ¬ BitVec.ofNat 32 k.val = (args x0 x1 x2 x3 x4 x5 x6 x7 x8 x9 x10 x11).ids b t from h)]; simp [IntOp.cmpi, Scalar.select, beq_eq_false_iff_ne.mpr h]

/-- The log probabilities, by batch row and step. -/
theorem colsv139 (b : Fin 40) (l : Fin 128) : val_main_v139 x0 x1 x2 x3 x4 x5 x6 x7 x8 x9 x10 x11 (ix2 b l) = cols ((args x0 x1 x2 x3 x4 x5 x6 x7 x8 x9 x10 x11).logp) b l := by
  pointwise [val_main_v138, val_main_c_29, val_main_call14_v0, val_main_v139]
  unfold cols
  split
  · rw [logpv137 x0 x1 x2 x3 x4 x5 x6 x7 x8 x9 x10 x11]
  · show (((0#32).toInt : ℝ) : EReal) = 0
    simp

/-- The logarithms of the sums, by batch row and step. -/
theorem colsv141 (b : Fin 40) (l : Fin 128) : val_main_v141 x1 x2 x3 x4 x5 x6 x7 x8 x9 x10 x11 (ix2 b l) = cols (fun t b => lse ((args x0 x1 x2 x3 x4 x5 x6 x7 x8 x9 x10 x11).logits t b)) b l := by
  pointwise [val_main_v140, val_main_c_30, val_main_call15_v0, val_main_v141]
  unfold cols
  split
  · rw [lsev127 x0 x1 x2 x3 x4 x5 x6 x7 x8 x9 x10 x11]
  · show (((0#32).toInt : ℝ) : EReal) = 0
    simp

/-- The scales of the attention rows, by batch row and step. -/
theorem colsv143 (b : Fin 40) (l : Fin 128) : val_main_v143 x1 (ix2 b l) = cols (fun t b => scale ((args x0 x1 x2 x3 x4 x5 x6 x7 x8 x9 x10 x11).attn t b)) b l := by
  pointwise [val_main_v142, val_main_c_31, val_main_call16_v0, val_main_v143]
  unfold cols
  split
  · rw [scalev6 x0 x1 x2 x3 x4 x5 x6 x7 x8 x9 x10 x11]
  · show (((0#32).toInt : ℝ) : EReal) = 0
    simp

/-- The scales of the normalised rows, by batch row and step. -/
theorem colsv145 (b : Fin 40) (l : Fin 128) : val_main_v145 x1 x2 x3 x4 x5 (ix2 b l) = cols (fun t b => scale ((args x0 x1 x2 x3 x4 x5 x6 x7 x8 x9 x10 x11).n t b)) b l := by
  pointwise [val_main_v144, val_main_c_32, val_main_call17_v0, val_main_v145]
  unfold cols
  split
  · rw [scalev45 x0 x1 x2 x3 x4 x5 x6 x7 x8 x9 x10 x11]
  · show (((0#32).toInt : ℝ) : EReal) = 0
    simp

/-- The scales of the gated product, by batch row and step. -/
theorem colsv147 (b : Fin 40) (l : Fin 128) : val_main_v147 x1 x2 x3 x4 x5 x6 x7 (ix2 b l) = cols (fun t b => scale ((args x0 x1 x2 x3 x4 x5 x6 x7 x8 x9 x10 x11).g t b)) b l := by
  pointwise [val_main_v146, val_main_c_33, val_main_call18_v0, val_main_v147]
  unfold cols
  split
  · rw [scalev74 x0 x1 x2 x3 x4 x5 x6 x7 x8 x9 x10 x11]
  · show (((0#32).toInt : ℝ) : EReal) = 0
    simp

/-- The scales of the last residual rows, by batch row and step. -/
theorem colsv149 (b : Fin 40) (l : Fin 128) : val_main_v149 x1 x2 x3 x4 x5 x6 x7 x8 x9 (ix2 b l) = cols (fun t b => scale ((args x0 x1 x2 x3 x4 x5 x6 x7 x8 x9 x10 x11).x2 t b)) b l := by
  pointwise [val_main_v148, val_main_c_34, val_main_call19_v0, val_main_v149]
  unfold cols
  split
  · rw [scalev100 x0 x1 x2 x3 x4 x5 x6 x7 x8 x9 x10 x11]
  · show (((0#32).toInt : ℝ) : EReal) = 0
    simp

end Cert.MlpRefIdeal.Ref
-- ==== Proof.RefArrays.lean ====
module

public import proofs.«01_k».proof.Proof.Ref
public import Idealize.ShloMosaic.Lib.Claim

@[expose] public section

set_option maxRecDepth 16384
noncomputable section
open Idealize.ShloMosaic Idealize.ShloMosaic.TcCoe Idealize.SL.Sem Idealize.ShloMosaic.StableHlo
namespace Cert.MlpRefIdeal.Ref
open Cert.MlpRefIdeal Cert.MlpRefIdeal.Gen Cert.MlpRefIdeal.Read Cert.Rows

/-! The arrays the reference's run leaves, each as one function of the layer's arguments. -/

/-- The layer's arguments, read off the reference's argument arrays. -/
def rargs (V0 : Valuation τ sig (Elt Ideal)) : Args :=
  args (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))

/-- The reference's array of `logits`. -/
theorem logits (V0 : Valuation τ sig (Elt Ideal)) :
    val_main_v118 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
      = fun y : S31x40x2051.Idx => (rargs V0).logits (y 0) (y 1) (y 2) := by
  funext y
  have e : y = ix3 (y 0) (y 1) (y 2) := by funext a; fin_cases a <;> rfl
  rw [e]
  exact logitsv118 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of `hidden`. -/
theorem hidden (V0 : Valuation τ sig (Elt Ideal)) :
    val_main_v119 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
      = fun y : S31x40x1024.Idx => (rargs V0).x2 (y 0) (y 1) (y 2) := by
  funext y
  have e : y = ix3 (y 0) (y 1) (y 2) := by funext a; fin_cases a <;> rfl
  rw [e]
  exact hiddenv119 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of `oCodes`. -/
theorem oCodes (V0 : Valuation τ sig (Elt Ideal)) :
    val_main_v13 (F := Ideal) (V0 (Proc.devRef .tc main_arg1))
      = fun y : S31x40x1024.Idx => word ((rargs V0).attn (y 0) (y 1)) (y 2) := by
  funext y
  have e : y = ix3 (y 0) (y 1) (y 2) := by funext a; fin_cases a <;> rfl
  rw [e]
  exact wordv13 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of `ff1Codes`. -/
theorem ff1Codes (V0 : Valuation τ sig (Elt Ideal)) :
    val_main_v52 (F := Ideal) (V0 (Proc.devRef .tc main_arg1)) (V0 (Proc.devRef .tc main_arg2)) (V0 (Proc.devRef .tc main_arg3)) (V0 (Proc.devRef .tc main_arg4)) (V0 (Proc.devRef .tc main_arg5))
      = fun y : S31x40x1024.Idx => word ((rargs V0).n (y 0) (y 1)) (y 2) := by
  funext y
  have e : y = ix3 (y 0) (y 1) (y 2) := by funext a; fin_cases a <;> rfl
  rw [e]
  exact wordv52 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of `ff2Codes`. -/
theorem ff2Codes (V0 : Valuation τ sig (Elt Ideal)) :
    val_main_v81 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))
      = fun y : S31x40x4096.Idx => word ((rargs V0).g (y 0) (y 1)) (y 2) := by
  funext y
  have e : y = ix3 (y 0) (y 1) (y 2) := by funext a; fin_cases a <;> rfl
  rw [e]
  exact wordv81 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of `headCodes`. -/
theorem headCodes (V0 : Valuation τ sig (Elt Ideal)) :
    val_main_v107 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
      = fun y : S31x40x1024.Idx => word ((rargs V0).x2 (y 0) (y 1)) (y 2) := by
  funext y
  have e : y = ix3 (y 0) (y 1) (y 2) := by funext a; fin_cases a <;> rfl
  rw [e]
  exact wordv107 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2)

/-- The reference's array of log probabilities. -/
theorem col139 (V0 : Valuation τ sig (Elt Ideal)) :
    val_main_v139 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
      = fun y : S40x128.Idx => cols (fun t b => (rargs V0).logp t b) (y 0) (y 1) := by
  funext y
  have e : y = ix2 (y 0) (y 1) := by funext a; fin_cases a <;> rfl
  rw [e]
  exact colsv139 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's array of logarithms of sums of exponentials. -/
theorem col141 (V0 : Valuation τ sig (Elt Ideal)) :
    val_main_v141 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
      = fun y : S40x128.Idx => cols (fun t b => lse ((rargs V0).logits t b)) (y 0) (y 1) := by
  funext y
  have e : y = ix2 (y 0) (y 1) := by funext a; fin_cases a <;> rfl
  rw [e]
  exact colsv141 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's array of scales of the attention rows. -/
theorem col143 (V0 : Valuation τ sig (Elt Ideal)) :
    val_main_v143 (F := Ideal) (V0 (Proc.devRef .tc main_arg1))
      = fun y : S40x128.Idx => cols (fun t b => scale ((rargs V0).attn t b)) (y 0) (y 1) := by
  funext y
  have e : y = ix2 (y 0) (y 1) := by funext a; fin_cases a <;> rfl
  rw [e]
  exact colsv143 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's array of scales of the normalised rows. -/
theorem col145 (V0 : Valuation τ sig (Elt Ideal)) :
    val_main_v145 (F := Ideal) (V0 (Proc.devRef .tc main_arg1)) (V0 (Proc.devRef .tc main_arg2)) (V0 (Proc.devRef .tc main_arg3)) (V0 (Proc.devRef .tc main_arg4)) (V0 (Proc.devRef .tc main_arg5))
      = fun y : S40x128.Idx => cols (fun t b => scale ((rargs V0).n t b)) (y 0) (y 1) := by
  funext y
  have e : y = ix2 (y 0) (y 1) := by funext a; fin_cases a <;> rfl
  rw [e]
  exact colsv145 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's array of scales of the gated product. -/
theorem col147 (V0 : Valuation τ sig (Elt Ideal)) :
    val_main_v147 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))
      = fun y : S40x128.Idx => cols (fun t b => scale ((rargs V0).g t b)) (y 0) (y 1) := by
  funext y
  have e : y = ix2 (y 0) (y 1) := by funext a; fin_cases a <;> rfl
  rw [e]
  exact colsv147 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's array of scales of the residual rows after the layer. -/
theorem col149 (V0 : Valuation τ sig (Elt Ideal)) :
    val_main_v149 (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
      = fun y : S40x128.Idx => cols (fun t b => scale ((rargs V0).x2 t b)) (y 0) (y 1) := by
  funext y
  have e : y = ix2 (y 0) (y 1) := by funext a; fin_cases a <;> rfl
  rw [e]
  exact colsv149 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1)

/-- The reference's run: every result array as a function of the layer's arguments, the argument arrays unchanged. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v118) = (fun y : S31x40x2051.Idx => (rargs (launchContents m c)).logits (y 0) (y 1) (y 2))
      ∧ r.2.mem ((c.tc : Thread nD τ).loc main_v119) = (fun y : S31x40x1024.Idx => (rargs (launchContents m c)).x2 (y 0) (y 1) (y 2))
      ∧ r.2.mem ((c.tc : Thread nD τ).loc main_v13) = (fun y : S31x40x1024.Idx => word ((rargs (launchContents m c)).attn (y 0) (y 1)) (y 2))
      ∧ r.2.mem ((c.tc : Thread nD τ).loc main_v52) = (fun y : S31x40x1024.Idx => word ((rargs (launchContents m c)).n (y 0) (y 1)) (y 2))
      ∧ r.2.mem ((c.tc : Thread nD τ).loc main_v81) = (fun y : S31x40x4096.Idx => word ((rargs (launchContents m c)).g (y 0) (y 1)) (y 2))
      ∧ r.2.mem ((c.tc : Thread nD τ).loc main_v107) = (fun y : S31x40x1024.Idx => word ((rargs (launchContents m c)).x2 (y 0) (y 1)) (y 2))
      ∧ r.2.mem ((c.tc : Thread nD τ).loc main_v139) = (fun y : S40x128.Idx => cols (fun t b => (rargs (launchContents m c)).logp t b) (y 0) (y 1))
      ∧ r.2.mem ((c.tc : Thread nD τ).loc main_v141) = (fun y : S40x128.Idx => cols (fun t b => lse ((rargs (launchContents m c)).logits t b)) (y 0) (y 1))
      ∧ r.2.mem ((c.tc : Thread nD τ).loc main_v143) = (fun y : S40x128.Idx => cols (fun t b => scale ((rargs (launchContents m c)).attn t b)) (y 0) (y 1))
      ∧ r.2.mem ((c.tc : Thread nD τ).loc main_v145) = (fun y : S40x128.Idx => cols (fun t b => scale ((rargs (launchContents m c)).n t b)) (y 0) (y 1))
      ∧ r.2.mem ((c.tc : Thread nD τ).loc main_v147) = (fun y : S40x128.Idx => cols (fun t b => scale ((rargs (launchContents m c)).g t b)) (y 0) (y 1))
      ∧ r.2.mem ((c.tc : Thread nD τ).loc main_v149) = (fun y : S40x128.Idx => cols (fun t b => scale ((rargs (launchContents m c)).x2 t b)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans ((val_main_v118_eq (launchContents m c)).trans (logits (launchContents m c))),
      (h c).2.1.trans ((val_main_v119_eq (launchContents m c)).trans (hidden (launchContents m c))),
      (h c).2.2.1.trans ((val_main_v13_eq (launchContents m c)).trans (oCodes (launchContents m c))),
      (h c).2.2.2.1.trans ((val_main_v52_eq (launchContents m c)).trans (ff1Codes (launchContents m c))),
      (h c).2.2.2.2.1.trans ((val_main_v81_eq (launchContents m c)).trans (ff2Codes (launchContents m c))),
      (h c).2.2.2.2.2.1.trans ((val_main_v107_eq (launchContents m c)).trans (headCodes (launchContents m c))),
      (h c).2.2.2.2.2.2.1.trans ((val_main_v139_eq (launchContents m c)).trans (col139 (launchContents m c))),
      (h c).2.2.2.2.2.2.2.1.trans ((val_main_v141_eq (launchContents m c)).trans (col141 (launchContents m c))),
      (h c).2.2.2.2.2.2.2.2.1.trans ((val_main_v143_eq (launchContents m c)).trans (col143 (launchContents m c))),
      (h c).2.2.2.2.2.2.2.2.2.1.trans ((val_main_v145_eq (launchContents m c)).trans (col145 (launchContents m c))),
      (h c).2.2.2.2.2.2.2.2.2.2.1.trans ((val_main_v147_eq (launchContents m c)).trans (col147 (launchContents m c))),
      (h c).2.2.2.2.2.2.2.2.2.2.2.1.trans ((val_main_v149_eq (launchContents m c)).trans (col149 (launchContents m c))),
      (h c).2.2.2.2.2.2.2.2.2.2.2.2⟩) (Cert.MlpRefIdeal.Value.run m ρ)

end Cert.MlpRefIdeal.Ref
-- ==== Proof.Block.lean ====
module

public import proofs.«01_k».proof.Proof.Gen.MlpIdeal.Skeleton
public import proofs.«01_k».proof.Proof.Rows

@[expose] public section

set_option maxRecDepth 16384
noncomputable section
open Idealize.ShloMosaic Idealize.SL.Sem
namespace Cert.MlpIdeal.Block
open Cert.MlpIdeal Cert.MlpIdeal.Gen Cert.Rows

/-- The kernel's scale of a row of its attention block. -/
theorem pay10 (v3 : Vec Ideal S1x40x1024 .f32) (b : Fin 40) : k0_pay10 v3 (ix2 b 0) = scale fun i => v3 (ix3 0 b i) := by
  pointwise [k0_pay10, k0_pay9]; rfl

/-- The kernel's codes of a row of its attention block. -/
theorem pay11 (v3 : Vec Ideal S1x40x1024 .f32) (b : Fin 40) (i : Fin 1024) :
    k0_pay11 v3 (ix2 b i) = code (fun i => v3 (ix3 0 b i)) i := by
  pointwise [k0_pay11, k0_pay9]; rw [pay10]; rfl

/-- The signed bytes it stores for that row. -/
theorem pay12 (v3 : Vec Ideal S1x40x1024 .f32) (b : Fin 40) (i : Fin 1024) :
    k0_pay12 v3 (ix3 0 b i) = word (fun i => v3 (ix3 0 b i)) i := by
  pointwise [k0_pay12]; rw [pay11]; rfl

/-- The residual row: the input row plus the projection of the quantised row, by the loaded weights and scales. -/
theorem pay14 {v13 : FVec Ideal S40x1 .f32} {v22 : FVec Ideal S40x1024 .f32} {a : Fin 40 → Fin 1024 → EReal}
    (hs : ∀ b, v13 (ix2 b 0) = scale (a b)) (hc : ∀ b i, v22 (ix2 b i) = code (a b) i)
    (v36 : Vec Ideal S1x40x1024 .f32) (v39 : Vec Ideal S1x1024x1024 .i8) (v46 : Vec Ideal S1x1024 .f32) (b : Fin 40) (o : Fin 1024) :
    k0_pay14 v13 v22 v36 v39 v46 (ix2 b o)
      = v36 (ix3 0 b o) + proj (a b) (fun i o => v39 (ix3 0 i o)) (fun o => v46 (ix2 0 o)) o := by
  pointwise [k0_pay14]; simp only [hs, hc]; rfl

/-- The residual row normalised, with the loaded gain. -/
theorem pay15 {v13 : FVec Ideal S40x1 .f32} {v22 : FVec Ideal S40x1024 .f32} {v36 : Vec Ideal S1x40x1024 .f32}
    {v39 : Vec Ideal S1x1024x1024 .i8} {v46 : Vec Ideal S1x1024 .f32} {x : Fin 40 → Fin 1024 → EReal}
    (hx : ∀ b o, k0_pay14 v13 v22 v36 v39 v46 (ix2 b o) = x b o) (v50 : Vec Ideal S1x1024 .f32) (b : Fin 40) (i : Fin 1024) :
    k0_pay15 v13 v22 v36 v39 v46 v50 (ix2 b i) = norm (x b) (fun i => v50 (ix2 0 i)) i := by
  pointwise [k0_pay15]; simp only [hx]; rfl

/-- The kernel's scale of a normalised row. -/
theorem pay16 {v13 : FVec Ideal S40x1 .f32} {v22 : FVec Ideal S40x1024 .f32} {v36 : Vec Ideal S1x40x1024 .f32}
    {v39 : Vec Ideal S1x1024x1024 .i8} {v46 : Vec Ideal S1x1024 .f32} {v50 : Vec Ideal S1x1024 .f32} {n : Fin 40 → Fin 1024 → EReal}
    (hn : ∀ b i, k0_pay15 v13 v22 v36 v39 v46 v50 (ix2 b i) = n b i) (b : Fin 40) :
    k0_pay16 v13 v22 v36 v39 v46 v50 (ix2 b 0) = scale (n b) := by
  pointwise [k0_pay16]; simp only [hn]; rfl

/-- The kernel's codes of a normalised row. -/
theorem pay18 {v13 : FVec Ideal S40x1 .f32} {v22 : FVec Ideal S40x1024 .f32} {v36 : Vec Ideal S1x40x1024 .f32}
    {v39 : Vec Ideal S1x1024x1024 .i8} {v46 : Vec Ideal S1x1024 .f32} {v50 : Vec Ideal S1x1024 .f32} {n : Fin 40 → Fin 1024 → EReal}
    (hn : ∀ b i, k0_pay15 v13 v22 v36 v39 v46 v50 (ix2 b i) = n b i) (b : Fin 40) (i : Fin 1024) :
    k0_pay18 127#32 (k0_pay17 v13 v22 v36 v39 v46 v50) (ix2 b i) = code (n b) i := by
  pointwise [k0_pay18, k0_pay17]; rw [pay16 hn, hn]; rfl

/-- The signed bytes it stores for a normalised row. -/
theorem pay19 {v78 : FVec Ideal S40x1024 .f32} {n : Fin 40 → Fin 1024 → EReal}
    (hc : ∀ b i, k0_pay18 127#32 v78 (ix2 b i) = code (n b) i) (b : Fin 40) (i : Fin 1024) :
    k0_pay19 127#32 v78 (ix3 0 b i) = word (n b) i := by
  pointwise [k0_pay19]; rw [hc]; rfl

/-- The codes of a normalised row in the narrow format: the same numbers. -/
theorem pay21 {v78 : FVec Ideal S40x1024 .f32} {n : Fin 40 → Fin 1024 → EReal}
    (hc : ∀ b i, k0_pay18 127#32 v78 (ix2 b i) = code (n b) i) (b : Fin 40) (i : Fin 1024) :
    k0_pay21 127#32 v78 (ix2 b i) = code (n b) i := by
  pointwise [k0_pay21]; rw [hc]
/-- One block of 1024 columns of the gated product: columns of the gate and of the other half, from their weights. -/
def gate (n : Fin 1024 → EReal) (wg wu : Vec Ideal S1x1024x1024 .i8) (sg su : Vec Ideal S1x1024 .f32) (o : Fin 1024) : EReal :=
  silu (proj n (fun i o => wg (ix3 0 i o)) (fun o => sg (ix2 0 o)) o) * proj n (fun i o => wu (ix3 0 i o)) (fun o => su (ix2 0 o)) o
section
variable {v72 : FVec Ideal S40x1 .f32} {v95 : FVec Ideal S40x1024 .bf16} {n : Fin 40 → Fin 1024 → EReal}
  (hs : ∀ b, v72 (ix2 b 0) = scale (n b)) (hc : ∀ b i, v95 (ix2 b i) = code (n b) i)
  (wg wu : Vec Ideal S1x1024x1024 .i8) (sg su : Vec Ideal S1x1024 .f32) (b : Fin 40) (o : Fin 1024)
include hs hc

/-- The second block of columns of the gated product. -/
theorem pay24 : k0_pay24 v72 v95 wg sg wu su (ix2 b o) = gate (n b) wg wu sg su o := by
  pointwise [k0_pay24]; simp only [hs, hc]; rfl

/-- The third block of columns of the gated product. -/
theorem pay26 : k0_pay26 v72 v95 (k0_pay25 v72 v95 wg sg) wu su (ix2 b o) = gate (n b) wg wu sg su o := by
  pointwise [k0_pay26, k0_pay25]; simp only [hs, hc]; rfl

/-- The fourth block of columns of the gated product. -/
theorem pay28 : k0_pay28 (k0_pay27 v72 v95 wg sg wu su) (ix2 b o) = gate (n b) wg wu sg su o := by
  pointwise [k0_pay28, k0_pay27]; simp only [hs, hc]; rfl
end

/-- The first block of columns of the gated product. -/
theorem pay23 {v72 : FVec Ideal S40x1 .f32} {v78 : FVec Ideal S40x1024 .f32} {n : Fin 40 → Fin 1024 → EReal}
    (hs : ∀ b, v72 (ix2 b 0) = scale (n b)) (hc : ∀ b i, k0_pay21 127#32 v78 (ix2 b i) = code (n b) i)
    (wg wu : Vec Ideal S1x1024x1024 .i8) (sg su : Vec Ideal S1x1024 .f32) (b : Fin 40) (o : Fin 1024) :
    k0_pay23 (k0_pay22 v72 127#32 v78 wg sg wu su) (ix2 b o) = gate (n b) wg wu sg su o := by
  pointwise [k0_pay23, k0_pay22]; simp only [hs, hc]; rfl

/-- The kernel's scale of a row of the gated product. -/
theorem pay29 {v200 : Vec Ideal S40x4096 .f32} {g : Fin 40 → Fin 4096 → EReal} (hg : ∀ b j, v200 (ix2 b j) = g b j) (b : Fin 40) :
    k0_pay29 v200 (ix2 b 0) = scale (g b) := by
  pointwise [k0_pay29]; simp only [hg]; rfl

/-- The kernel's codes of a row of the gated product. -/
theorem pay30 {v200 : Vec Ideal S40x4096 .f32} {g : Fin 40 → Fin 4096 → EReal} (hg : ∀ b j, v200 (ix2 b j) = g b j) (b : Fin 40)
    (j : Fin 4096) : k0_pay30 v200 (ix2 b j) = code (g b) j := by
  pointwise [k0_pay30]; rw [pay29 hg, hg]; rfl

/-- The signed bytes it stores for a row of the gated product. -/
theorem pay31 {v200 : Vec Ideal S40x4096 .f32} {g : Fin 40 → Fin 4096 → EReal} (hg : ∀ b j, v200 (ix2 b j) = g b j) (b : Fin 40)
    (j : Fin 4096) : k0_pay31 v200 (ix3 0 b j) = word (g b) j := by
  pointwise [k0_pay31]; rw [pay30 hg]; rfl

/-- The residual row after the second feed-forward projection of the quantised gated product. -/
theorem pay34 {v49 : FVec Ideal S40x1024 .f32} {x : Fin 40 → Fin 1024 → EReal} (hx : ∀ b o, v49 (ix2 b o) = x b o)
    {v200 : Vec Ideal S40x4096 .f32} {g : Fin 40 → Fin 4096 → EReal} (hg : ∀ b j, v200 (ix2 b j) = g b j)
    (v233 : Vec Ideal S1x4096x1024 .i8) (v240 : Vec Ideal S1x1024 .f32) (b : Fin 40) (o : Fin 1024) :
    k0_pay34 v49 (k0_pay29 v200) (k0_pay33 v200 v233) v240 (ix2 b o)
      = x b o + proj (g b) (fun i o => v233 (ix3 0 i o)) (fun o => v240 (ix2 0 o)) o := by
  pointwise [k0_pay34, k0_pay33]; simp only [pay29 hg, pay30 hg, hx]; rfl
section
variable {v49 : FVec Ideal S40x1024 .f32} {v209 : FVec Ideal S40x1 .f32} {v236 : FVec Ideal S40x1024 .f32} {v240 : Vec Ideal S1x1024 .f32}
  {x : Fin 40 → Fin 1024 → EReal} (hx : ∀ b o, k0_pay34 v49 v209 v236 v240 (ix2 b o) = x b o) (b : Fin 40) (i : Fin 1024)
include hx

/-- The residual row stored, in the narrow format: the same numbers. -/
theorem pay35 : k0_pay35 v49 v209 v236 v240 (ix3 0 b i) = x b i := by
  pointwise [k0_pay35]; rw [hx]

/-- The kernel's scale of a residual row. -/
theorem pay36 : k0_pay36 v49 v209 v236 v240 (ix2 b 0) = scale (x b) := by
  pointwise [k0_pay36]; simp only [hx]; rfl

/-- The kernel's codes of a residual row. -/
theorem pay37 : k0_pay37 v49 v209 v236 v240 (ix2 b i) = code (x b) i := by
  pointwise [k0_pay37]; rw [pay36 hx, hx]; rfl

/-- The signed bytes it stores for a residual row. -/
theorem pay38 : k0_pay38 v49 v209 v236 v240 (ix3 0 b i) = word (x b) i := by
  pointwise [k0_pay38]; rw [pay37 hx]; rfl
end
section
variable {v256 : FVec Ideal S40x1 .f32} {v265 : FVec Ideal S40x1024 .f32} {x : Fin 40 → Fin 1024 → EReal}
  (hs : ∀ b, v256 (ix2 b 0) = scale (x b)) (hc : ∀ b i, v265 (ix2 b i) = code (x b) i)
  (v280 : Vec Ideal S1x1024x2051 .i8) (v287 : Vec Ideal S1x2051 .f32) (b : Fin 40) (o : Fin 2051)
include hs hc

/-- The logits of a row: the head projection of the quantised residual row. -/
theorem pay40 : k0_pay40 v256 v265 v280 v287 (ix2 b o) = proj (x b) (fun i o => v280 (ix3 0 i o)) (fun o => v287 (ix2 0 o)) o := by
  pointwise [k0_pay40]; simp only [hs, hc]; rfl
end
section
variable {v256 : FVec Ideal S40x1 .f32} {v265 : FVec Ideal S40x1024 .f32} {v280 : Vec Ideal S1x1024x2051 .i8} {v287 : Vec Ideal S1x2051 .f32}
  {l : Fin 40 → Fin 2051 → EReal} (hl : ∀ b o, k0_pay40 v256 v265 v280 v287 (ix2 b o) = l b o) (b : Fin 40) (o : Fin 2051)
include hl

/-- The logits stored. -/
theorem pay41 : k0_pay41 v256 v265 v280 v287 (ix3 0 b o) = l b o := by
  pointwise [k0_pay41]; rw [hl]

/-- The logarithm of the sum of exponentials of a row of logits. -/
theorem pay42 : k0_pay42 v256 v265 v280 v287 (ix2 b 0) = lse (l b) := by
  pointwise [k0_pay42]; simp only [hl]; rfl

/-- The logit of the row's id at step `t`: the ids' column `t` picked out by a sum over the steps, then the logit by a sum
over the columns. -/
theorem pay43 (t : Fin 31) (v302 : Vec Ideal S40x31 .i32) :
    k0_pay43 (BitVec.ofNat 32 t.val) v256 v265 v280 v287 v302 (ix2 b 0) = pick (l b) (v302 (ix2 b t)) := by
  have key : (∑ x : Fin 31, FloatOps.sitofp (F := Ideal) FTy.f32
      (Scalar.select (IntOp.cmpi CmpIPredicate.eq (BitVec.ofNat 32 ↑x) (BitVec.ofNat 32 t.val)) (v302 (ix2 b x)) 0#32))
      = (((v302 (ix2 b t)).toInt : ℝ) : EReal) := by
    rw [Finset.sum_eq_single t]
    · rw [show IntOp.cmpi CmpIPredicate.eq (BitVec.ofNat 32 t.val) (BitVec.ofNat 32 t.val) = 1#1 from by simp [IntOp.cmpi]]
      rfl
    · intro x _ hx
      have hne : BitVec.ofNat 32 x.val ≠ BitVec.ofNat 32 t.val := by
        intro h; apply hx; apply Fin.ext
        have := congrArg BitVec.toNat h
        simp only [BitVec.toNat_ofNat] at this
        omega
      rw [show IntOp.cmpi CmpIPredicate.eq (BitVec.ofNat 32 x.val) (BitVec.ofNat 32 t.val) = 0#1 from by
        simp [IntOp.cmpi, beq_eq_false_iff_ne.mpr hne]]
      show (((0#32).toInt : ℝ) : EReal) = 0
      simp
    · intro h; exact absurd (Finset.mem_univ _) h
  pointwise [k0_pay43]
  rw [key]
  show _ = ∑ k : Fin 2051, _
  refine Finset.sum_congr rfl fun x _ => ?_
  rw [hl, show FloatOps.fptosi (F := Ideal) (φ := .f32) 32 ((((v302 (ix2 b t)).toInt : ℝ) : EReal)) = v302 (ix2 b t) from fptosi_toInt _]
  by_cases h : BitVec.ofNat 32 x.val = v302 (ix2 b t)
  · rw [if_pos h, h]; simp [IntOp.cmpi, Scalar.select]
  · rw [if_neg h]; simp [IntOp.cmpi, Scalar.select, beq_eq_false_iff_ne.mpr h]
end

/-- Two small numbers compared as 32-bit words: a choice on the result is a choice on their equality. -/
theorem select_eq {α : Type} (a b : ℕ) (ha : a < 128) (hb : b < 128) (x y : α) :
    Scalar.select (IntOp.cmpi CmpIPredicate.eq (BitVec.ofNat 32 a) (BitVec.ofNat 32 b)) x y = if a = b then x else y := by
  by_cases h : a = b
  · subst h; simp [IntOp.cmpi, Scalar.select]
  · have hne : BitVec.ofNat 32 a ≠ BitVec.ofNat 32 b := by
      intro e
      have := congrArg BitVec.toNat e
      simp only [BitVec.toNat_ofNat] at this
      omega
    rw [if_neg h]; simp [IntOp.cmpi, Scalar.select, beq_eq_false_iff_ne.mpr hne]

section
variable (t : Fin 31) (b : Fin 40) (l : Fin 128) (old : Vec Ideal S40x128 .f32)

/-- The scales' array with the column of the step set to the scales of the attention rows. -/
theorem put13 (i : grid0.Coords) (v3 : Vec Ideal S1x40x1024 .f32) :
    k0_pay13 i v3 old (ix2 b l) = if l.val = (i 0).val then scale (fun k => v3 (ix3 0 b k)) else old (ix2 b l) := by
  have hi : (i 0).val < 31 := (i 0).isLt
  pointwise [k0_pay13]; rw [pay10, select_eq _ _ (by omega) (by omega)]

/-- The scales' array with column `t` set to the scales of the normalised rows. -/
theorem put20 {v : FVec Ideal S40x1 .f32} {n : Fin 40 → EReal} (hs : ∀ b, v (ix2 b 0) = n b) :
    k0_pay20 (BitVec.ofNat 32 t.val) v old (ix2 b l) = if l.val = t.val then n b else old (ix2 b l) := by
  pointwise [k0_pay20]; rw [hs, select_eq _ _ (by omega) (by omega)]

/-- The scales' array with column `t` set to the scales of the gated product. -/
theorem put32 {v : Vec Ideal S40x4096 .f32} {n : Fin 40 → EReal} (hs : ∀ b, k0_pay29 v (ix2 b 0) = n b) :
    k0_pay32 (BitVec.ofNat 32 t.val) v old (ix2 b l) = if l.val = t.val then n b else old (ix2 b l) := by
  pointwise [k0_pay32]; rw [hs, select_eq _ _ (by omega) (by omega)]

/-- The scales' array with column `t` set to the scales of the residual rows. -/
theorem put39 {v49 : FVec Ideal S40x1024 .f32} {v209 : FVec Ideal S40x1 .f32} {v236 : FVec Ideal S40x1024 .f32} {v240 : Vec Ideal S1x1024 .f32}
    {n : Fin 40 → EReal} (hs : ∀ b, k0_pay36 v49 v209 v236 v240 (ix2 b 0) = n b) :
    k0_pay39 (BitVec.ofNat 32 t.val) v49 v209 v236 v240 old (ix2 b l) = if l.val = t.val then n b else old (ix2 b l) := by
  pointwise [k0_pay39]; rw [hs, select_eq _ _ (by omega) (by omega)]

/-- The array of logarithms of sums of exponentials with column `t` set. -/
theorem put1 {v : FVec Ideal S40x1 .f32} {n : Fin 40 → EReal} (hs : ∀ b, v (ix2 b 0) = n b) :
    k0_pay1 (BitVec.ofNat 32 t.val) v (iota .tc S40x128 32 [1] iota_S40x128_d1_w32) old (ix2 b l)
      = if l.val = t.val then n b else old (ix2 b l) := by
  pointwise [k0_pay1]; rw [hs, select_eq _ _ (by omega) (by omega)]

/-- The array of log probabilities with column `t` set to the picked logit less the logarithm. -/
theorem put2 {v w : FVec Ideal S40x1 .f32} {n p : Fin 40 → EReal} (hs : ∀ b, v (ix2 b 0) = n b) (hp : ∀ b, w (ix2 b 0) = p b) :
    k0_pay2 (BitVec.ofNat 32 t.val) v w old (ix2 b l) = if l.val = t.val then p b - n b else old (ix2 b l) := by
  pointwise [k0_pay2]; rw [hs, hp, select_eq _ _ (by omega) (by omega)]
end
end Cert.MlpIdeal.Block
-- ==== Proof.Point.lean ====
module

public import proofs.«01_k».proof.Proof.Block
public import proofs.«01_k».proof.Proof.Layer
public import Idealize.ShloMosaic.Lib.Pipeline.ValueKit
public import Idealize.ShloMosaic.Lib.VecWindow

@[expose] public section

set_option maxRecDepth 16384
noncomputable section
open Idealize.ShloMosaic Idealize.SL.Sem
namespace Cert.MlpIdeal.Point
open Cert.MlpIdeal Cert.MlpIdeal.Gen Cert.Rows Cert.MlpIdeal.Block

/-! What one grid point of the kernel computes, from the blocks it loads: every array it stores, as the layer's functions
of one step. -/

/-- The scratch buffer of the gated product after its four column blocks were stored, loaded as a whole. -/
abbrev scratchRead (p0 p1 p2 p3 : Vec Ideal S40x1024 .f32) : Vec Ideal S40x4096 .f32 :=
  (View.whole cc0_scratch0).readCov
    [⟨Rect.unit ![0, 3072] ![40, 1024] inb_S40x4096_S40x1024_0_3072, p3⟩,
      ⟨Rect.unit ![0, 2048] ![40, 1024] inb_S40x4096_S40x1024_0_2048, p2⟩,
      ⟨Rect.unit ![0, 1024] ![40, 1024] inb_S40x4096_S40x1024_0_1024, p1⟩,
      ⟨Rect.unit ![0, 0] ![40, 1024] inb_S40x4096_S40x1024_0_0, p0⟩]
    (Rect.unit (s := S40x4096) ![0, 0] ![40, 4096] inb_S40x4096_S40x4096_0_0).toLoadRect

/-- Four column blocks stored into the scratch buffer and the whole buffer loaded: column `j` is in block `j / 1024`. -/
theorem scratchRead_apply (p0 p1 p2 p3 : Vec Ideal S40x1024 .f32) (g : Fin 40 → Fin 4096 → EReal)
    (k0 : ∀ b (o : Fin 1024), p0 (ix2 b o) = g b ⟨0 + o.val, by omega⟩) (k1 : ∀ b (o : Fin 1024), p1 (ix2 b o) = g b ⟨1024 + o.val, by omega⟩)
    (k2 : ∀ b (o : Fin 1024), p2 (ix2 b o) = g b ⟨2048 + o.val, by omega⟩) (k3 : ∀ b (o : Fin 1024), p3 (ix2 b o) = g b ⟨3072 + o.val, by omega⟩)
    (b : Fin 40) (j : Fin 4096) : scratchRead p0 p1 p2 p3 (ix2 b j) = g b j := by
  have key : ∀ y : S40x4096.Idx, View.canon (Val := Elt Ideal) (s := S40x4096) (e := .f32)
      [⟨Rect.unit ![0, 3072] ![40, 1024] inb_S40x4096_S40x1024_0_3072, p3⟩,
      ⟨Rect.unit ![0, 2048] ![40, 1024] inb_S40x4096_S40x1024_0_2048, p2⟩,
      ⟨Rect.unit ![0, 1024] ![40, 1024] inb_S40x4096_S40x1024_0_1024, p1⟩,
      ⟨Rect.unit ![0, 0] ![40, 1024] inb_S40x4096_S40x1024_0_0, p0⟩] y = g (y 0) (y 1) := by
    intro y
    canon_tiles x h
    all_goals idx_vars x
    · rw [k3]; exact congrArg₂ g (Fin.ext h0.symm) (Fin.ext h1.symm)
    · rw [k2]; exact congrArg₂ g (Fin.ext h0.symm) (Fin.ext h1.symm)
    · rw [k1]; exact congrArg₂ g (Fin.ext h0.symm) (Fin.ext h1.symm)
    · rw [k0]; exact congrArg₂ g (Fin.ext h0.symm) (Fin.ext (by simpa using h1.symm))
  unfold scratchRead
  rw [View.readCov_eq_canon']
  have e : (Rect.unit (s := S40x4096) ![0, 0] ![40, 4096] inb_S40x4096_S40x4096_0_0).toLoadRect.idx (ix2 b j) = (ix2 b j : S40x4096.Idx) :=
    Rect.emb_unit_full (s := S40x4096) inb_S40x4096_S40x4096_0_0 (ix2 b j)
  show View.canon _ _ = _
  rw [e]
  exact key _

/-- The blocks one grid point loads: the ids, its rows of the attention output and of the residual input, its weights and
scales (those of the first feed-forward projection in four blocks of gate columns and four of the other half). -/
structure Loads where
  ids : Vec Ideal S40x31 .i32
  attn : Vec Ideal S1x40x1024 .f32
  x : Vec Ideal S1x40x1024 .f32
  wo : Vec Ideal S1x1024x1024 .i8
  so : Vec Ideal S1x1024 .f32
  gain : Vec Ideal S1x1024 .f32
  wg0 : Vec Ideal S1x1024x1024 .i8
  sg0 : Vec Ideal S1x1024 .f32
  wu0 : Vec Ideal S1x1024x1024 .i8
  su0 : Vec Ideal S1x1024 .f32
  wg1 : Vec Ideal S1x1024x1024 .i8
  sg1 : Vec Ideal S1x1024 .f32
  wu1 : Vec Ideal S1x1024x1024 .i8
  su1 : Vec Ideal S1x1024 .f32
  wg2 : Vec Ideal S1x1024x1024 .i8
  sg2 : Vec Ideal S1x1024 .f32
  wu2 : Vec Ideal S1x1024x1024 .i8
  su2 : Vec Ideal S1x1024 .f32
  wg3 : Vec Ideal S1x1024x1024 .i8
  sg3 : Vec Ideal S1x1024 .f32
  wu3 : Vec Ideal S1x1024x1024 .i8
  su3 : Vec Ideal S1x1024 .f32
  w2 : Vec Ideal S1x4096x1024 .i8
  s2 : Vec Ideal S1x1024 .f32
  wh : Vec Ideal S1x1024x2051 .i8
  sh : Vec Ideal S1x2051 .f32

/-- The loaded blocks are those of step `s` of the layer's arguments. -/
structure Loads.Holds (L : Loads) (A : Args) (s : Fin 31) : Prop where
  ids : ∀ b, L.ids (ix2 b s) = A.ids b s
  attn : ∀ b i, L.attn (ix3 0 b i) = A.attn s b i
  x : ∀ b i, L.x (ix3 0 b i) = A.x s b i
  wo : ∀ i o, L.wo (ix3 0 i o) = A.wo s i o
  so : ∀ o, L.so (ix2 0 o) = A.so s o
  gain : ∀ i, L.gain (ix2 0 i) = A.gain i
  wg0 : ∀ i (o : Fin 1024), L.wg0 (ix3 0 i o) = A.w1 s i ⟨0 + o.val, by omega⟩
  sg0 : ∀ o : Fin 1024, L.sg0 (ix2 0 o) = A.s1 s ⟨0 + o.val, by omega⟩
  wu0 : ∀ i (o : Fin 1024), L.wu0 (ix3 0 i o) = A.w1 s i ⟨4096 + (0 + o.val), by omega⟩
  su0 : ∀ o : Fin 1024, L.su0 (ix2 0 o) = A.s1 s ⟨4096 + (0 + o.val), by omega⟩
  wg1 : ∀ i (o : Fin 1024), L.wg1 (ix3 0 i o) = A.w1 s i ⟨1024 + o.val, by omega⟩
  sg1 : ∀ o : Fin 1024, L.sg1 (ix2 0 o) = A.s1 s ⟨1024 + o.val, by omega⟩
  wu1 : ∀ i (o : Fin 1024), L.wu1 (ix3 0 i o) = A.w1 s i ⟨4096 + (1024 + o.val), by omega⟩
  su1 : ∀ o : Fin 1024, L.su1 (ix2 0 o) = A.s1 s ⟨4096 + (1024 + o.val), by omega⟩
  wg2 : ∀ i (o : Fin 1024), L.wg2 (ix3 0 i o) = A.w1 s i ⟨2048 + o.val, by omega⟩
  sg2 : ∀ o : Fin 1024, L.sg2 (ix2 0 o) = A.s1 s ⟨2048 + o.val, by omega⟩
  wu2 : ∀ i (o : Fin 1024), L.wu2 (ix3 0 i o) = A.w1 s i ⟨4096 + (2048 + o.val), by omega⟩
  su2 : ∀ o : Fin 1024, L.su2 (ix2 0 o) = A.s1 s ⟨4096 + (2048 + o.val), by omega⟩
  wg3 : ∀ i (o : Fin 1024), L.wg3 (ix3 0 i o) = A.w1 s i ⟨3072 + o.val, by omega⟩
  sg3 : ∀ o : Fin 1024, L.sg3 (ix2 0 o) = A.s1 s ⟨3072 + o.val, by omega⟩
  wu3 : ∀ i (o : Fin 1024), L.wu3 (ix3 0 i o) = A.w1 s i ⟨4096 + (3072 + o.val), by omega⟩
  su3 : ∀ o : Fin 1024, L.su3 (ix2 0 o) = A.s1 s ⟨4096 + (3072 + o.val), by omega⟩
  w2 : ∀ i o, L.w2 (ix3 0 i o) = A.w2 s i o
  s2 : ∀ o, L.s2 (ix2 0 o) = A.s2 s o
  wh : ∀ i o, L.wh (ix3 0 i o) = A.wh s i o
  sh : ∀ o, L.sh (ix2 0 o) = A.sh s o

namespace Loads

/-- The scales of the attention rows. -/
abbrev sc0 (L : Loads) : FVec Ideal S40x1 .f32 := k0_pay10 L.attn
/-- The codes of the attention rows. -/
abbrev c0 (L : Loads) : FVec Ideal S40x1024 .f32 := k0_pay11 L.attn
/-- The residual rows after the output projection. -/
abbrev x1 (L : Loads) : FVec Ideal S40x1024 .f32 := k0_pay14 L.sc0 L.c0 L.x L.wo L.so
/-- The scales of the normalised rows. -/
abbrev sc1 (L : Loads) : FVec Ideal S40x1 .f32 := k0_pay16 L.sc0 L.c0 L.x L.wo L.so L.gain
/-- The normalised rows, divided by their scales and rounded. -/
abbrev r1 (L : Loads) : FVec Ideal S40x1024 .f32 := k0_pay17 L.sc0 L.c0 L.x L.wo L.so L.gain
/-- The codes of the normalised rows. -/
abbrev c1 (L : Loads) : FVec Ideal S40x1024 .bf16 := k0_pay21 127#32 L.r1
/-- The gated product, as loaded back from the scratch buffer. -/
abbrev gv (L : Loads) : Vec Ideal S40x4096 .f32 :=
  scratchRead (k0_pay23 (k0_pay22 L.sc1 127#32 L.r1 L.wg0 L.sg0 L.wu0 L.su0)) (k0_pay24 L.sc1 L.c1 L.wg1 L.sg1 L.wu1 L.su1)
    (k0_pay26 L.sc1 L.c1 (k0_pay25 L.sc1 L.c1 L.wg2 L.sg2) L.wu2 L.su2) (k0_pay28 (k0_pay27 L.sc1 L.c1 L.wg3 L.sg3 L.wu3 L.su3))
/-- The product of the codes of the gated product with the second feed-forward matrix. -/
abbrev d2 (L : Loads) : FVec Ideal S40x1024 .f32 := k0_pay33 L.gv L.w2
/-- The scales of the residual rows after the second feed-forward projection. -/
abbrev sc3 (L : Loads) : FVec Ideal S40x1 .f32 := k0_pay36 L.x1 (k0_pay29 L.gv) L.d2 L.s2
/-- The codes of those rows. -/
abbrev c3 (L : Loads) : FVec Ideal S40x1024 .f32 := k0_pay37 L.x1 (k0_pay29 L.gv) L.d2 L.s2

variable {L : Loads} {A : Args} {s : Fin 31} (h : L.Holds A s) (b : Fin 40)
include h

/-- The scales of the attention rows. -/
theorem sc0_apply : L.sc0 (ix2 b 0) = scale (A.attn s b) := by
  refine (pay10 _ _).trans ?_; simp only [h.attn]

/-- The codes of the attention rows. -/
theorem c0_apply (i : Fin 1024) : L.c0 (ix2 b i) = code (A.attn s b) i := by
  refine (pay11 _ _ _).trans ?_; simp only [h.attn]

/-- The signed bytes stored for the attention rows. -/
theorem word0 (i : Fin 1024) : k0_pay12 L.attn (ix3 0 b i) = word (A.attn s b) i := by
  rw [pay12]; simp only [h.attn]

/-- The residual rows after the output projection. -/
theorem x1_apply (o : Fin 1024) : L.x1 (ix2 b o) = A.x1 s b o := by
  refine (pay14 (a := A.attn s) (sc0_apply h) (c0_apply h) _ _ _ _ _).trans ?_
  simp only [h.x, h.wo, h.so]; rfl

/-- The normalised rows. -/
theorem n_apply (i : Fin 1024) : k0_pay15 L.sc0 L.c0 L.x L.wo L.so L.gain (ix2 b i) = A.n s b i := by
  rw [pay15 (x := A.x1 s) (fun b o => x1_apply h b o)]
  simp only [h.gain]; rfl

/-- The scales of the normalised rows. -/
theorem sc1_apply : L.sc1 (ix2 b 0) = scale (A.n s b) := pay16 (n_apply h) b

/-- The signed bytes stored for the normalised rows. -/
theorem word1 (i : Fin 1024) : k0_pay19 127#32 L.r1 (ix3 0 b i) = word (A.n s b) i := pay19 (fun b i => pay18 (n_apply h) b i) b i

/-- The codes of the normalised rows. -/
theorem c1_apply (i : Fin 1024) : L.c1 (ix2 b i) = code (A.n s b) i := pay21 (fun b i => pay18 (n_apply h) b i) b i

/-- The gated product, as loaded back from the scratch buffer. -/
theorem gv_apply (j : Fin 4096) : L.gv (ix2 b j) = A.g s b j := by
  refine scratchRead_apply _ _ _ _ (A.g s) (fun b o => ?_) (fun b o => ?_) (fun b o => ?_) (fun b o => ?_) b j
  · rw [pay23 (n := A.n s) (sc1_apply h) (c1_apply h)]
    simp only [gate, h.wg0, h.sg0, h.wu0, h.su0]
    rfl
  · rw [pay24 (n := A.n s) (sc1_apply h) (c1_apply h)]
    simp only [gate, h.wg1, h.sg1, h.wu1, h.su1]
    rfl
  · rw [pay26 (n := A.n s) (sc1_apply h) (c1_apply h)]
    simp only [gate, h.wg2, h.sg2, h.wu2, h.su2]
    rfl
  · rw [pay28 (n := A.n s) (sc1_apply h) (c1_apply h)]
    simp only [gate, h.wg3, h.sg3, h.wu3, h.su3]
    rfl

/-- The scales of the gated product. -/
theorem sc2_apply : k0_pay29 L.gv (ix2 b 0) = scale (A.g s b) := pay29 (gv_apply h) b

/-- The signed bytes stored for the gated product. -/
theorem word2 (j : Fin 4096) : k0_pay31 L.gv (ix3 0 b j) = word (A.g s b) j := pay31 (gv_apply h) b j

/-- The residual rows after the second feed-forward projection. -/
theorem x2_apply (o : Fin 1024) : k0_pay34 L.x1 (k0_pay29 L.gv) L.d2 L.s2 (ix2 b o) = A.x2 s b o := by
  rw [pay34 (x := A.x1 s) (x1_apply h) (gv_apply h)]
  simp only [h.w2, h.s2]; rfl

/-- The residual rows stored. -/
theorem hidden (o : Fin 1024) : k0_pay35 L.x1 (k0_pay29 L.gv) L.d2 L.s2 (ix3 0 b o) = A.x2 s b o := pay35 (x2_apply h) b o

/-- The scales of the residual rows. -/
theorem sc3_apply : L.sc3 (ix2 b 0) = scale (A.x2 s b) := pay36 (x2_apply h) b

/-- The codes of the residual rows. -/
theorem c3_apply (i : Fin 1024) : L.c3 (ix2 b i) = code (A.x2 s b) i := pay37 (x2_apply h) b i

/-- The signed bytes stored for the residual rows. -/
theorem word3 (i : Fin 1024) : k0_pay38 L.x1 (k0_pay29 L.gv) L.d2 L.s2 (ix3 0 b i) = word (A.x2 s b) i := pay38 (x2_apply h) b i

/-- The logits. -/
theorem logits_apply (o : Fin 2051) : k0_pay40 L.sc3 L.c3 L.wh L.sh (ix2 b o) = A.logits s b o := by
  rw [pay40 (x := A.x2 s) (sc3_apply h) (c3_apply h)]
  simp only [h.wh, h.sh]; rfl

/-- The logits stored. -/
theorem logits (o : Fin 2051) : k0_pay41 L.sc3 L.c3 L.wh L.sh (ix3 0 b o) = A.logits s b o := pay41 (logits_apply h) b o

/-- The logarithms of the sums of exponentials of the logits. -/
theorem lse_apply : k0_pay42 L.sc3 L.c3 L.wh L.sh (ix2 b 0) = lse (A.logits s b) := pay42 (logits_apply h) b

/-- The logits of the ids. -/
theorem pick_apply : k0_pay43 (BitVec.ofNat 32 s.val) L.sc3 L.c3 L.wh L.sh L.ids (ix2 b 0) = pick (A.logits s b) (A.ids b s) := by
  rw [pay43 (logits_apply h), h.ids]

variable (l : Fin 128) (old : Vec Ideal S40x128 .f32)

/-- The column of log probabilities written into the array of them. -/
theorem putLogp : k0_pay2 (BitVec.ofNat 32 s.val) (k0_pay42 L.sc3 L.c3 L.wh L.sh) (k0_pay43 (BitVec.ofNat 32 s.val) L.sc3 L.c3 L.wh L.sh L.ids)
    old (ix2 b l) = if l.val = s.val then A.logp s b else old (ix2 b l) := put2 s b l old (lse_apply h) (pick_apply h)

/-- The column of logarithms of sums of exponentials written into the array of them. -/
theorem putLse : k0_pay1 (BitVec.ofNat 32 s.val) (k0_pay42 L.sc3 L.c3 L.wh L.sh) (iota .tc S40x128 32 [1] iota_S40x128_d1_w32)
    old (ix2 b l) = if l.val = s.val then lse (A.logits s b) else old (ix2 b l) := put1 s b l old (lse_apply h)

/-- The column of scales of the attention rows written into the array of them. -/
theorem putSc0 (i : grid0.Coords) (hi : (i 0).val = s.val) :
    k0_pay13 i L.attn old (ix2 b l) = if l.val = s.val then scale (A.attn s b) else old (ix2 b l) := by
  rw [put13, hi]; simp only [h.attn]

/-- The column of scales of the normalised rows written into the array of them. -/
theorem putSc1 : k0_pay20 (BitVec.ofNat 32 s.val) L.sc1 old (ix2 b l) = if l.val = s.val then scale (A.n s b) else old (ix2 b l) :=
  put20 s b l old (sc1_apply h)

/-- The column of scales of the gated product written into the array of them. -/
theorem putSc2 : k0_pay32 (BitVec.ofNat 32 s.val) L.gv old (ix2 b l) = if l.val = s.val then scale (A.g s b) else old (ix2 b l) :=
  put32 s b l old (sc2_apply h)

/-- The column of scales of the residual rows written into the array of them. -/
theorem putSc3 : k0_pay39 (BitVec.ofNat 32 s.val) L.x1 (k0_pay29 L.gv) L.d2 L.s2 old (ix2 b l)
    = if l.val = s.val then scale (A.x2 s b) else old (ix2 b l) := put39 s b l old (sc3_apply h)

end Loads
end Cert.MlpIdeal.Point
-- ==== Proof.Loads.lean ====
module

public import proofs.«01_k».proof.Proof.Gen.MlpIdeal.Value
public import proofs.«01_k».proof.Proof.Point

@[expose] public section

set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.Rows Cert.MlpIdeal.Point
variable (m : (ℓ : Loc nD τ sig) → Buf (Elt Ideal) ℓ)

/-! The blocks loaded at each grid point are the layer's arguments of that step. -/

/-- The layer's arguments, read off the argument arrays in memory. -/
def kargs (c : Dev nD) : Args where
  ids b t := m ((c : Thread nD τ).loc main_arg0) (ix2 b t)
  attn t b i := m ((c : Thread nD τ).loc main_arg1) (ix3 t b i)
  x t b i := m ((c : Thread nD τ).loc main_arg2) (ix3 t b i)
  wo t i o := m ((c : Thread nD τ).loc main_arg3) (ix3 t i o)
  so t o := m ((c : Thread nD τ).loc main_arg4) (ix2 t o)
  gain i := m ((c : Thread nD τ).loc main_arg5) (ix1 i)
  w1 t i o := m ((c : Thread nD τ).loc main_arg6) (ix3 t i o)
  s1 t o := m ((c : Thread nD τ).loc main_arg7) (ix2 t o)
  w2 t i o := m ((c : Thread nD τ).loc main_arg8) (ix3 t i o)
  s2 t o := m ((c : Thread nD τ).loc main_arg9) (ix2 t o)
  wh t i o := m ((c : Thread nD τ).loc main_arg10) (ix3 t i o)
  sh t o := m ((c : Thread nD τ).loc main_arg11) (ix2 t o)

/-- The blocks loaded at grid point `t`. -/
abbrev loads (c : Dev nD) (t : Fin cfg0.N) : Loads where
  ids := iblk m c 0 t
  attn := iblk m c 1 t
  x := iblk m c 2 t
  wo := iblk m c 3 t
  so := View.ld (iblk m c 4 t) (Rect.unit (s := S31x1024) (k0_off1 (grid0.coords t)) ![1, 1024] (k0_off1_inb _))
  gain := iblk m c 5 t
  wg0 := View.ld (iblk m c 6 t) (Rect.unit (s := S1x1024x8192) ![0, 0, 0] ![1, 1024, 1024] inb_S1x1024x8192_S1x1024x1024_0_0_0)
  sg0 := View.ld (iblk m c 7 t) (Rect.unit (s := S31x8192) (k0_off2 (grid0.coords t)) ![1, 1024] (k0_off2_inb _))
  wu0 := View.ld (iblk m c 6 t) (Rect.unit (s := S1x1024x8192) ![0, 0, 4096] ![1, 1024, 1024] inb_S1x1024x8192_S1x1024x1024_0_0_4096)
  su0 := View.ld (iblk m c 7 t) (Rect.unit (s := S31x8192) (k0_off3 (grid0.coords t)) ![1, 1024] (k0_off3_inb _))
  wg1 := View.ld (iblk m c 6 t) (Rect.unit (s := S1x1024x8192) ![0, 0, 1024] ![1, 1024, 1024] inb_S1x1024x8192_S1x1024x1024_0_0_1024)
  sg1 := View.ld (iblk m c 7 t) (Rect.unit (s := S31x8192) (k0_off4 (grid0.coords t)) ![1, 1024] (k0_off4_inb _))
  wu1 := View.ld (iblk m c 6 t) (Rect.unit (s := S1x1024x8192) ![0, 0, 5120] ![1, 1024, 1024] inb_S1x1024x8192_S1x1024x1024_0_0_5120)
  su1 := View.ld (iblk m c 7 t) (Rect.unit (s := S31x8192) (k0_off5 (grid0.coords t)) ![1, 1024] (k0_off5_inb _))
  wg2 := View.ld (iblk m c 6 t) (Rect.unit (s := S1x1024x8192) ![0, 0, 2048] ![1, 1024, 1024] inb_S1x1024x8192_S1x1024x1024_0_0_2048)
  sg2 := View.ld (iblk m c 7 t) (Rect.unit (s := S31x8192) (k0_off6 (grid0.coords t)) ![1, 1024] (k0_off6_inb _))
  wu2 := View.ld (iblk m c 6 t) (Rect.unit (s := S1x1024x8192) ![0, 0, 6144] ![1, 1024, 1024] inb_S1x1024x8192_S1x1024x1024_0_0_6144)
  su2 := View.ld (iblk m c 7 t) (Rect.unit (s := S31x8192) (k0_off7 (grid0.coords t)) ![1, 1024] (k0_off7_inb _))
  wg3 := View.ld (iblk m c 6 t) (Rect.unit (s := S1x1024x8192) ![0, 0, 3072] ![1, 1024, 1024] inb_S1x1024x8192_S1x1024x1024_0_0_3072)
  sg3 := View.ld (iblk m c 7 t) (Rect.unit (s := S31x8192) (k0_off8 (grid0.coords t)) ![1, 1024] (k0_off8_inb _))
  wu3 := View.ld (iblk m c 6 t) (Rect.unit (s := S1x1024x8192) ![0, 0, 7168] ![1, 1024, 1024] inb_S1x1024x8192_S1x1024x1024_0_0_7168)
  su3 := View.ld (iblk m c 7 t) (Rect.unit (s := S31x8192) (k0_off9 (grid0.coords t)) ![1, 1024] (k0_off9_inb _))
  w2 := iblk m c 8 t
  s2 := View.ld (iblk m c 9 t) (Rect.unit (s := S31x1024) (k0_off1 (grid0.coords t)) ![1, 1024] (k0_off1_inb _))
  wh := iblk m c 10 t
  sh := View.ld (iblk m c 11 t) (Rect.unit (s := S31x2051) (k0_off10 (grid0.coords t)) ![1, 2051] (k0_off10_inb _))

/-- Every input window's block index at every grid point: the whole array, or the point's step. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![t.val, 0, 0]
    ∧ win0_7.index t = ![0, 0] ∧ win0_8.index t = ![t.val, 0, 0] ∧ win0_9.index t = ![0, 0] ∧ win0_10.index t = ![t.val, 0, 0]
    ∧ win0_11.index t = ![0, 0] :=
  (by decide +kernel : ∀ t : Fin grid0.N, _)

/-- Every output window's block index at every grid point: the point's step, or the whole array. -/
theorem idxOut : ∀ t : Fin cfg0.N, win0_12.index t = ![t.val, 0, 0] ∧ win0_13.index t = ![t.val, 0, 0] ∧ win0_14.index t = ![t.val, 0, 0]
    ∧ win0_15.index t = ![t.val, 0, 0] ∧ win0_16.index t = ![t.val, 0, 0] ∧ win0_17.index t = ![t.val, 0, 0] ∧ win0_18.index t = ![0, 0]
    ∧ win0_19.index t = ![0, 0] ∧ win0_20.index t = ![0, 0] ∧ win0_21.index t = ![0, 0] ∧ win0_22.index t = ![0, 0]
    ∧ win0_23.index t = ![0, 0] :=
  (by decide +kernel : ∀ t : Fin grid0.N, _)

/-- The grid's coordinate at a point is the point's number, the step. -/
theorem coord : ∀ t : Fin cfg0.N, (grid0.coords t 0).val = t.val := (by decide +kernel : ∀ t : Fin grid0.N, _)

/-- The rows of the scales read at a grid point are the step's, at the columns of the block. -/
theorem off : ∀ t : Fin cfg0.N, k0_off1 (grid0.coords t) = ![t.val, 0] ∧ k0_off2 (grid0.coords t) = ![t.val, 0] ∧ k0_off3 (grid0.coords t) = ![t.val, 4096] ∧ k0_off4 (grid0.coords t) = ![t.val, 1024] ∧ k0_off5 (grid0.coords t) = ![t.val, 5120] ∧ k0_off6 (grid0.coords t) = ![t.val, 2048] ∧ k0_off7 (grid0.coords t) = ![t.val, 6144] ∧ k0_off8 (grid0.coords t) = ![t.val, 3072] ∧ k0_off9 (grid0.coords t) = ![t.val, 7168]
    ∧ k0_off10 (grid0.coords t) = ![t.val, 0] :=
  (by decide +kernel : ∀ t : Fin grid0.N, _)

/-- The step of a grid point. -/
abbrev step (t : Fin cfg0.N) : Fin 31 := ⟨t.val, t.isLt⟩

/-- A row of an array of scales, loaded at a row and a first column: its entries. -/
theorem ld_row {n k : ℕ} (X : Vec Ideal ⟨2, ![31, n]⟩ .f32) (p : Fin 2 → ℕ) (inb) (s : Fin 31) (q : ℕ) (e : p = ![s.val, q]) (o : Fin k)
    (h : q + o.val < n) : View.ld X (Rect.unit (s := ⟨2, ![31, n]⟩) p ![1, k] inb) (ix2 0 o) = X (ix2 s ⟨q + o.val, h⟩) := by
  subst e
  show X _ = X _
  congr 1; funext a; fin_cases a <;> apply Fin.ext <;> simp [Rect.unit, ix2]
/-- A block of columns of one step's first feed-forward matrix: its entries. -/
theorem ld_cols (X : Vec Ideal S1x1024x8192 .i8) (q : ℕ) (inb) (i o : Fin 1024)
    (h : q + o.val < 8192) : View.ld X (Rect.unit (s := S1x1024x8192) ![0, 0, q] ![1, 1024, 1024] inb) (ix3 0 i o) = X (ix3 0 i ⟨q + o.val, h⟩) := by
  show X _ = X _
  congr 1; funext a; fin_cases a <;> apply Fin.ext <;> simp [Rect.unit, ix3]
/-- The gain, loaded as a block, is the argument's. -/
theorem gain_apply (c : Dev nD) (t : Fin cfg0.N) (i : Fin 1024) : iblk m c 5 t (ix2 0 i) = m ((c : Thread nD τ).loc main_arg5) (ix1 i) := by
  have e : iblk m c 5 t (ix2 0 i) = V m c main_v0 (ix2 0 i) := by blk_ext [iblk, idx t]
  rw [e]
  entry_read
  exact congrArg (m ((c : Thread nD τ).loc main_arg5)) (by funext a; fin_cases a; rfl)

/-- The ids, as loaded. -/
theorem read0 (c : Dev nD) (t : Fin cfg0.N) (b : Fin 40) (s : Fin 31) : iblk m c 0 t (ix2 b s) = m ((c : Thread nD τ).loc main_arg0) (ix2 b s) := by
  blk_ext [iblk, V, idx t]

/-- The attention rows, as loaded. -/
theorem read1 (c : Dev nD) (t : Fin cfg0.N) (b : Fin 40) (i : Fin 1024) : iblk m c 1 t (ix3 0 b i) = m ((c : Thread nD τ).loc main_arg1) (ix3 (step t) b i) := by
  blk_ext [iblk, V, idx t]

/-- The residual rows, as loaded. -/
theorem read2 (c : Dev nD) (t : Fin cfg0.N) (b : Fin 40) (i : Fin 1024) : iblk m c 2 t (ix3 0 b i) = m ((c : Thread nD τ).loc main_arg2) (ix3 (step t) b i) := by
  blk_ext [iblk, V, idx t]

/-- The output projection's bytes, as loaded. -/
theorem read3 (c : Dev nD) (t : Fin cfg0.N) (i o : Fin 1024) : iblk m c 3 t (ix3 0 i o) = m ((c : Thread nD τ).loc main_arg3) (ix3 (step t) i o) := by
  blk_ext [iblk, V, idx t]

/-- The output projection's scales, as loaded. -/
theorem read4 (c : Dev nD) (t : Fin cfg0.N) (s : Fin 31) (o : Fin 1024) : iblk m c 4 t (ix2 s o) = m ((c : Thread nD τ).loc main_arg4) (ix2 s o) := by
  blk_ext [iblk, V, idx t]

/-- The first feed-forward projection's bytes, as loaded. -/
theorem read6 (c : Dev nD) (t : Fin cfg0.N) (i : Fin 1024) (o : Fin 8192) : iblk m c 6 t (ix3 0 i o) = m ((c : Thread nD τ).loc main_arg6) (ix3 (step t) i o) := by
  blk_ext [iblk, V, idx t]

/-- The first feed-forward projection's scales, as loaded. -/
theorem read7 (c : Dev nD) (t : Fin cfg0.N) (s : Fin 31) (o : Fin 8192) : iblk m c 7 t (ix2 s o) = m ((c : Thread nD τ).loc main_arg7) (ix2 s o) := by
  blk_ext [iblk, V, idx t]

/-- The second feed-forward projection's bytes, as loaded. -/
theorem read8 (c : Dev nD) (t : Fin cfg0.N) (i : Fin 4096) (o : Fin 1024) : iblk m c 8 t (ix3 0 i o) = m ((c : Thread nD τ).loc main_arg8) (ix3 (step t) i o) := by
  blk_ext [iblk, V, idx t]

/-- The second feed-forward projection's scales, as loaded. -/
theorem read9 (c : Dev nD) (t : Fin cfg0.N) (s : Fin 31) (o : Fin 1024) : iblk m c 9 t (ix2 s o) = m ((c : Thread nD τ).loc main_arg9) (ix2 s o) := by
  blk_ext [iblk, V, idx t]

/-- The head's bytes, as loaded. -/
theorem read10 (c : Dev nD) (t : Fin cfg0.N) (i : Fin 1024) (o : Fin 2051) : iblk m c 10 t (ix3 0 i o) = m ((c : Thread nD τ).loc main_arg10) (ix3 (step t) i o) := by
  blk_ext [iblk, V, idx t]

/-- The head's scales, as loaded. -/
theorem read11 (c : Dev nD) (t : Fin cfg0.N) (s : Fin 31) (o : Fin 2051) : iblk m c 11 t (ix2 s o) = m ((c : Thread nD τ).loc main_arg11) (ix2 s o) := by
  blk_ext [iblk, V, idx t]

set_option maxHeartbeats 1600000 in
/-- The blocks loaded at grid point `t` hold the layer's arguments of step `t`. -/
theorem holds (c : Dev nD) (t : Fin cfg0.N) : (loads m c t).Holds (kargs m c) (step t) where
  ids b := read0 m c t b (step t)
  attn b i := read1 m c t b i
  x b i := read2 m c t b i
  wo i o := read3 m c t i o
  so o := (ld_row (iblk m c 4 t) _ _ (step t) 0 (off t).1 o (by omega)).trans ((congrArg (fun o => iblk m c 4 t (ix2 (step t) o)) (Fin.ext (Nat.zero_add _))).trans (read4 m c t _ _))
  gain i := gain_apply m c t i
  wg0 i o := (ld_cols (iblk m c 6 t) 0 _ i o (by omega)).trans ((read6 m c t i _))
  sg0 o := (ld_row (iblk m c 7 t) _ _ (step t) 0 (off t).2.1 o (by omega)).trans ((read7 m c t _ _))
  wu0 i o := (ld_cols (iblk m c 6 t) 4096 _ i o (by omega)).trans ((congrArg (fun o => iblk m c 6 t (ix3 0 i o)) (Fin.ext (show 4096 + o.val = 4096 + (0 + o.val) by omega))).trans (read6 m c t i _))
  su0 o := (ld_row (iblk m c 7 t) _ _ (step t) 4096 (off t).2.2.1 o (by omega)).trans ((congrArg (fun o => iblk m c 7 t (ix2 (step t) o)) (Fin.ext (show 4096 + o.val = 4096 + (0 + o.val) by omega))).trans (read7 m c t _ _))
  wg1 i o := (ld_cols (iblk m c 6 t) 1024 _ i o (by omega)).trans ((read6 m c t i _))
  sg1 o := (ld_row (iblk m c 7 t) _ _ (step t) 1024 (off t).2.2.2.1 o (by omega)).trans ((read7 m c t _ _))
  wu1 i o := (ld_cols (iblk m c 6 t) 5120 _ i o (by omega)).trans ((congrArg (fun o => iblk m c 6 t (ix3 0 i o)) (Fin.ext (Nat.add_assoc 4096 1024 o.val))).trans (read6 m c t i _))
  su1 o := (ld_row (iblk m c 7 t) _ _ (step t) 5120 (off t).2.2.2.2.1 o (by omega)).trans ((congrArg (fun o => iblk m c 7 t (ix2 (step t) o)) (Fin.ext (Nat.add_assoc 4096 1024 o.val))).trans (read7 m c t _ _))
  wg2 i o := (ld_cols (iblk m c 6 t) 2048 _ i o (by omega)).trans ((read6 m c t i _))
  sg2 o := (ld_row (iblk m c 7 t) _ _ (step t) 2048 (off t).2.2.2.2.2.1 o (by omega)).trans ((read7 m c t _ _))
  wu2 i o := (ld_cols (iblk m c 6 t) 6144 _ i o (by omega)).trans ((congrArg (fun o => iblk m c 6 t (ix3 0 i o)) (Fin.ext (Nat.add_assoc 4096 2048 o.val))).trans (read6 m c t i _))
  su2 o := (ld_row (iblk m c 7 t) _ _ (step t) 6144 (off t).2.2.2.2.2.2.1 o (by omega)).trans ((congrArg (fun o => iblk m c 7 t (ix2 (step t) o)) (Fin.ext (Nat.add_assoc 4096 2048 o.val))).trans (read7 m c t _ _))
  wg3 i o := (ld_cols (iblk m c 6 t) 3072 _ i o (by omega)).trans ((read6 m c t i _))
  sg3 o := (ld_row (iblk m c 7 t) _ _ (step t) 3072 (off t).2.2.2.2.2.2.2.1 o (by omega)).trans ((read7 m c t _ _))
  wu3 i o := (ld_cols (iblk m c 6 t) 7168 _ i o (by omega)).trans ((congrArg (fun o => iblk m c 6 t (ix3 0 i o)) (Fin.ext (Nat.add_assoc 4096 3072 o.val))).trans (read6 m c t i _))
  su3 o := (ld_row (iblk m c 7 t) _ _ (step t) 7168 (off t).2.2.2.2.2.2.2.2.1 o (by omega)).trans ((congrArg (fun o => iblk m c 7 t (ix2 (step t) o)) (Fin.ext (Nat.add_assoc 4096 3072 o.val))).trans (read7 m c t _ _))
  w2 i o := read8 m c t i o
  s2 o := (ld_row (iblk m c 9 t) _ _ (step t) 0 (off t).1 o (by omega)).trans ((congrArg (fun o => iblk m c 9 t (ix2 (step t) o)) (Fin.ext (Nat.zero_add _))).trans (read9 m c t _ _))
  wh i o := read10 m c t i o
  sh o := (ld_row (iblk m c 11 t) _ _ (step t) 0 (off t).2.2.2.2.2.2.2.2.2 o (by omega)).trans ((congrArg (fun o => iblk m c 11 t (ix2 (step t) o)) (Fin.ext (Nat.zero_add _))).trans (read11 m c t _ _))

end Cert.MlpIdeal.Value
-- ==== Proof.StepArrays.lean ====
module

public import proofs.«01_k».proof.Proof.Loads

@[expose] public section

set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.Rows Cert.MlpIdeal.Point
variable (m : (ℓ : Loc nD τ sig) → Buf (Elt Ideal) ℓ)

/-! The arrays with a block per grid point, after the run: each entry is what its step computed. -/

/-- The array of the logits of every step and batch row. -/
def logits (A : Args) (y : S31x40x2051.Idx) : EReal := A.logits (y 0) (y 1) (y 2)

set_option maxHeartbeats 1600000 in
/-- What grid point `t` leaves in its block of the array of the logits of every step and batch row. -/
theorem left12 (c : Dev nD) (t : Fin cfg0.N) (b : Fin 40) (o : Fin 2051) :
    (outsAt0 m c t.val t.isLt).1 (ix3 0 b o) = (kargs m c).logits (step t) b o := by
  by_cases h0 : t.val % 31 = 0
  · rw [outsAt0_A m c t h0]; frame_out
    exact Loads.logits (holds m c t) b o
  · rw [outsAt0_B m c t h0]; frame_out
    exact Loads.logits (holds m c t) b o

/-- The array of the logits of every step and batch row, after the run. -/
theorem final12 (c : Dev nD) : (dats m 0 c).arrAt 12 (cfgs 0).N = logits (kargs m c) := by
  refine (dats m 0 c).arrAt_eq_of_covers 12 _ (by decide +kernel) fun t hf y => ?_
  blk_simp
  rw [after0_12]
  idx_vars y
  obtain rfl : y0 = 0 := Subsingleton.elim _ _
  refine (left12 m c t y1 y2).trans ?_
  show logits (kargs m c) (ix3 (step t) y1 y2) = _
  exact congrArg (logits (kargs m c)) (by blk_ext [idxOut t])

/-- The array of the residual rows after the layer. -/
def hidden (A : Args) (y : S31x40x1024.Idx) : EReal := A.x2 (y 0) (y 1) (y 2)

set_option maxHeartbeats 1600000 in
/-- What grid point `t` leaves in its block of the array of the residual rows after the layer. -/
theorem left13 (c : Dev nD) (t : Fin cfg0.N) (b : Fin 40) (o : Fin 1024) :
    (outsAt0 m c t.val t.isLt).2.1 (ix3 0 b o) = (kargs m c).x2 (step t) b o := by
  by_cases h0 : t.val % 31 = 0
  · rw [outsAt0_A m c t h0]; frame_out
    exact Loads.hidden (holds m c t) b o
  · rw [outsAt0_B m c t h0]; frame_out
    exact Loads.hidden (holds m c t) b o

/-- The array of the residual rows after the layer, after the run. -/
theorem final13 (c : Dev nD) : (dats m 0 c).arrAt 13 (cfgs 0).N = hidden (kargs m c) := by
  refine (dats m 0 c).arrAt_eq_of_covers 13 _ (by decide +kernel) fun t hf y => ?_
  blk_simp
  rw [after0_13]
  idx_vars y
  obtain rfl : y0 = 0 := Subsingleton.elim _ _
  refine (left13 m c t y1 y2).trans ?_
  show hidden (kargs m c) (ix3 (step t) y1 y2) = _
  exact congrArg (hidden (kargs m c)) (by blk_ext [idxOut t])

/-- The array of the signed bytes of the attention rows. -/
def oCodes (A : Args) (y : S31x40x1024.Idx) : BitVec 8 := word (A.attn (y 0) (y 1)) (y 2)

set_option maxHeartbeats 1600000 in
/-- What grid point `t` leaves in its block of the array of the signed bytes of the attention rows. -/
theorem left14 (c : Dev nD) (t : Fin cfg0.N) (b : Fin 40) (o : Fin 1024) :
    (outsAt0 m c t.val t.isLt).2.2.1 (ix3 0 b o) = word ((kargs m c).attn (step t) b) o := by
  by_cases h0 : t.val % 31 = 0
  · rw [outsAt0_A m c t h0]; frame_out
    exact Loads.word0 (holds m c t) b o
  · rw [outsAt0_B m c t h0]; frame_out
    exact Loads.word0 (holds m c t) b o

/-- The array of the signed bytes of the attention rows, after the run. -/
theorem final14 (c : Dev nD) : (dats m 0 c).arrAt 14 (cfgs 0).N = oCodes (kargs m c) := by
  refine (dats m 0 c).arrAt_eq_of_covers 14 _ (by decide +kernel) fun t hf y => ?_
  blk_simp
  rw [after0_14]
  idx_vars y
  obtain rfl : y0 = 0 := Subsingleton.elim _ _
  refine (left14 m c t y1 y2).trans ?_
  show oCodes (kargs m c) (ix3 (step t) y1 y2) = _
  exact congrArg (oCodes (kargs m c)) (by blk_ext [idxOut t])

/-- The array of the signed bytes of the normalised rows. -/
def ff1Codes (A : Args) (y : S31x40x1024.Idx) : BitVec 8 := word (A.n (y 0) (y 1)) (y 2)

set_option maxHeartbeats 1600000 in
/-- What grid point `t` leaves in its block of the array of the signed bytes of the normalised rows. -/
theorem left15 (c : Dev nD) (t : Fin cfg0.N) (b : Fin 40) (o : Fin 1024) :
    (outsAt0 m c t.val t.isLt).2.2.2.1 (ix3 0 b o) = word ((kargs m c).n (step t) b) o := by
  by_cases h0 : t.val % 31 = 0
  · rw [outsAt0_A m c t h0]; frame_out
    exact Loads.word1 (holds m c t) b o
  · rw [outsAt0_B m c t h0]; frame_out
    exact Loads.word1 (holds m c t) b o

/-- The array of the signed bytes of the normalised rows, after the run. -/
theorem final15 (c : Dev nD) : (dats m 0 c).arrAt 15 (cfgs 0).N = ff1Codes (kargs m c) := by
  refine (dats m 0 c).arrAt_eq_of_covers 15 _ (by decide +kernel) fun t hf y => ?_
  blk_simp
  rw [after0_15]
  idx_vars y
  obtain rfl : y0 = 0 := Subsingleton.elim _ _
  refine (left15 m c t y1 y2).trans ?_
  show ff1Codes (kargs m c) (ix3 (step t) y1 y2) = _
  exact congrArg (ff1Codes (kargs m c)) (by blk_ext [idxOut t])

/-- The array of the signed bytes of the gated product. -/
def ff2Codes (A : Args) (y : S31x40x4096.Idx) : BitVec 8 := word (A.g (y 0) (y 1)) (y 2)

set_option maxHeartbeats 1600000 in
/-- What grid point `t` leaves in its block of the array of the signed bytes of the gated product. -/
theorem left16 (c : Dev nD) (t : Fin cfg0.N) (b : Fin 40) (o : Fin 4096) :
    (outsAt0 m c t.val t.isLt).2.2.2.2.1 (ix3 0 b o) = word ((kargs m c).g (step t) b) o := by
  by_cases h0 : t.val % 31 = 0
  · rw [outsAt0_A m c t h0]; frame_out
    exact Loads.word2 (holds m c t) b o
  · rw [outsAt0_B m c t h0]; frame_out
    exact Loads.word2 (holds m c t) b o

/-- The array of the signed bytes of the gated product, after the run. -/
theorem final16 (c : Dev nD) : (dats m 0 c).arrAt 16 (cfgs 0).N = ff2Codes (kargs m c) := by
  refine (dats m 0 c).arrAt_eq_of_covers 16 _ (by decide +kernel) fun t hf y => ?_
  blk_simp
  rw [after0_16]
  idx_vars y
  obtain rfl : y0 = 0 := Subsingleton.elim _ _
  refine (left16 m c t y1 y2).trans ?_
  show ff2Codes (kargs m c) (ix3 (step t) y1 y2) = _
  exact congrArg (ff2Codes (kargs m c)) (by blk_ext [idxOut t])

/-- The array of the signed bytes of the residual rows after the layer. -/
def headCodes (A : Args) (y : S31x40x1024.Idx) : BitVec 8 := word (A.x2 (y 0) (y 1)) (y 2)

set_option maxHeartbeats 1600000 in
/-- What grid point `t` leaves in its block of the array of the signed bytes of the residual rows after the layer. -/
theorem left17 (c : Dev nD) (t : Fin cfg0.N) (b : Fin 40) (o : Fin 1024) :
    (outsAt0 m c t.val t.isLt).2.2.2.2.2.1 (ix3 0 b o) = word ((kargs m c).x2 (step t) b) o := by
  by_cases h0 : t.val % 31 = 0
  · rw [outsAt0_A m c t h0]; frame_out
    exact Loads.word3 (holds m c t) b o
  · rw [outsAt0_B m c t h0]; frame_out
    exact Loads.word3 (holds m c t) b o

/-- The array of the signed bytes of the residual rows after the layer, after the run. -/
theorem final17 (c : Dev nD) : (dats m 0 c).arrAt 17 (cfgs 0).N = headCodes (kargs m c) := by
  refine (dats m 0 c).arrAt_eq_of_covers 17 _ (by decide +kernel) fun t hf y => ?_
  blk_simp
  rw [after0_17]
  idx_vars y
  obtain rfl : y0 = 0 := Subsingleton.elim _ _
  refine (left17 m c t y1 y2).trans ?_
  show headCodes (kargs m c) (ix3 (step t) y1 y2) = _
  exact congrArg (headCodes (kargs m c)) (by blk_ext [idxOut t])

end Cert.MlpIdeal.Value
-- ==== Proof.ColumnArrays.lean ====
module

public import proofs.«01_k».proof.Proof.Loads

@[expose] public section

set_option maxRecDepth 16384
noncomputable section
open Idealize.ShloMosaic Idealize.ShloMosaic.TcCoe Idealize.SL.Sem
open Idealize.ShloMosaic.Pipeline (Dat)
namespace Cert.MlpIdeal.Value
open Cert.MlpIdeal Cert.MlpIdeal.Gen Cert.Rows Cert.MlpIdeal.Point
variable (m : (ℓ : Loc nD τ sig) → Buf (Elt Ideal) ℓ)

/-! The arrays with a column per grid point, after the run: column `l` holds what step `l` computed, the columns beyond the
steps hold zero. -/

/-- An array of columns zeroed at the first of 31 points, one column set at each: after point `n`, the columns up to `n`
hold their values and the others zero. -/
theorem acc (f : Fin 31 → Fin 40 → EReal) (O : ∀ n, n < 31 → Fin 40 → Fin 128 → EReal)
    (hA : ∀ h b l, O 0 h b l = if l.val = 0 then f ⟨0, h⟩ b else 0)
    (hB : ∀ n (h : n + 1 < 31) b l, O (n + 1) h b l = if l.val = n + 1 then f ⟨n + 1, h⟩ b else O n (by omega) b l) :
    ∀ n h b l, O n h b l = if l.val ≤ n then cols f b l else 0 := by
  intro n
  induction n with
  | zero =>
    intro h b l
    rw [hA, cols]
    by_cases e : l.val = 0
    · simp [e]
    · simp [e]
  | succ n ih =>
    intro h b l
    rw [hB, ih]
    by_cases e : l.val = n + 1
    · rw [if_pos e, if_pos (by omega), cols, dif_pos (by omega)]
      congr 1; exact Fin.ext e.symm
    · rw [if_neg e]
      by_cases e' : l.val ≤ n
      · rw [if_pos e', if_pos (by omega)]
      · rw [if_neg e', if_neg (by omega)]

/-- The log probabilities, of a step and a batch row. -/
def logpCol (A : Args) : Fin 31 → Fin 40 → EReal := fun t b => A.logp t b

set_option maxHeartbeats 1600000 in
/-- The array of log probabilities after the first grid point: its column, zero elsewhere. -/
theorem first18 (c : Dev nD) (t : Fin cfg0.N) (h0 : t.val % 31 = 0) (b : Fin 40) (l : Fin 128) :
    (outsAt0 m c t.val t.isLt).2.2.2.2.2.2.1 (ix2 b l) = if l.val = t.val then logpCol (kargs m c) (step t) b else 0 := by
  rw [outsAt0_A m c t h0]; frame_out; rw [coord t]; refine (Loads.putLogp (holds m c t) b l _).trans ?_
  rw [show k0_pay3 (F := Ideal) (ix2 b l) = 0 from by pointwise [k0_pay3]]
  rfl

set_option maxHeartbeats 1600000 in
/-- The array of log probabilities after a later grid point: its column, the rest as the point before left it. -/
theorem next18 (c : Dev nD) (t : Fin cfg0.N) (h0 : ¬t.val % 31 = 0) (b : Fin 40) (l : Fin 128) :
    (outsAt0 m c t.val t.isLt).2.2.2.2.2.2.1 (ix2 b l) = if l.val = t.val then logpCol (kargs m c) (step t) b
      else (outsAt0 m c (t.val - 1) (Nat.lt_of_le_of_lt (Nat.sub_le _ _) t.isLt)).2.2.2.2.2.2.1 (ix2 b l) := by
  rw [outsAt0_B m c t h0]; frame_out; rw [coord t]; exact Loads.putLogp (holds m c t) b l _

/-- The array of log probabilities, after the run. -/
theorem final18 (c : Dev nD) : (dats m 0 c).arrAt 18 (cfgs 0).N = fun y : S40x128.Idx => cols (logpCol (kargs m c)) (y 0) (y 1) := by
  refine (dats m 0 c).arrAt_eq_of_covers 18 _ (by decide +kernel) fun t hf y => ?_
  have ht : t.val % 31 = 30 := (flush0_18 t).mp hf
  have hlt : t.val < 31 := t.isLt
  blk_simp
  rw [after0_18]
  idx_vars y
  refine (acc (logpCol (kargs m c)) (fun n h b l => (outsAt0 m c n h).2.2.2.2.2.2.1 (ix2 b l))
    (fun h b l => first18 m c ⟨0, h⟩ rfl b l) (fun n h b l => next18 m c ⟨n + 1, h⟩ (by show ¬(n + 1) % 31 = 0; omega) b l)
    t.val t.isLt y0 y1).trans ?_
  refine Eq.trans (b := cols (logpCol (kargs m c)) y0 y1) ?_ ?_
  · by_cases e : y1.val ≤ t.val
    · rw [if_pos e]
    · rw [if_neg e, cols, dif_neg (by omega)]
  · show (fun y : S40x128.Idx => cols (logpCol (kargs m c)) (y 0) (y 1)) (ix2 y0 y1) = _
    exact congrArg (fun y : S40x128.Idx => cols (logpCol (kargs m c)) (y 0) (y 1)) (by blk_ext [idxOut t])

/-- The logarithms of sums of exponentials, of a step and a batch row. -/
def lseCol (A : Args) : Fin 31 → Fin 40 → EReal := fun t b => lse (A.logits t b)

set_option maxHeartbeats 1600000 in
/-- The array of logarithms of sums of exponentials after the first grid point: its column, zero elsewhere. -/
theorem first19 (c : Dev nD) (t : Fin cfg0.N) (h0 : t.val % 31 = 0) (b : Fin 40) (l : Fin 128) :
    (outsAt0 m c t.val t.isLt).2.2.2.2.2.2.2.1 (ix2 b l) = if l.val = t.val then lseCol (kargs m c) (step t) b else 0 := by
  rw [outsAt0_A m c t h0]; frame_out; rw [coord t]; refine (Loads.putLse (holds m c t) b l _).trans ?_
  rw [show k0_pay4 (F := Ideal) (ix2 b l) = 0 from by pointwise [k0_pay4]]
  rfl

set_option maxHeartbeats 1600000 in
/-- The array of logarithms of sums of exponentials after a later grid point: its column, the rest as the point before left it. -/
theorem next19 (c : Dev nD) (t : Fin cfg0.N) (h0 : ¬t.val % 31 = 0) (b : Fin 40) (l : Fin 128) :
    (outsAt0 m c t.val t.isLt).2.2.2.2.2.2.2.1 (ix2 b l) = if l.val = t.val then lseCol (kargs m c) (step t) b
      else (outsAt0 m c (t.val - 1) (Nat.lt_of_le_of_lt (Nat.sub_le _ _) t.isLt)).2.2.2.2.2.2.2.1 (ix2 b l) := by
  rw [outsAt0_B m c t h0]; frame_out; rw [coord t]; exact Loads.putLse (holds m c t) b l _

/-- The array of logarithms of sums of exponentials, after the run. -/
theorem final19 (c : Dev nD) : (dats m 0 c).arrAt 19 (cfgs 0).N = fun y : S40x128.Idx => cols (lseCol (kargs m c)) (y 0) (y 1) := by
  refine (dats m 0 c).arrAt_eq_of_covers 19 _ (by decide +kernel) fun t hf y => ?_
  have ht : t.val % 31 = 30 := (flush0_19 t).mp hf
  have hlt : t.val < 31 := t.isLt
  blk_simp
  rw [after0_19]
  idx_vars y
  refine (acc (lseCol (kargs m c)) (fun n h b l => (outsAt0 m c n h).2.2.2.2.2.2.2.1 (ix2 b l))
    (fun h b l => first19 m c ⟨0, h⟩ rfl b l) (fun n h b l => next19 m c ⟨n + 1, h⟩ (by show ¬(n + 1) % 31 = 0; omega) b l)
    t.val t.isLt y0 y1).trans ?_
  refine Eq.trans (b := cols (lseCol (kargs m c)) y0 y1) ?_ ?_
  · by_cases e : y1.val ≤ t.val
    · rw [if_pos e]
    · rw [if_neg e, cols, dif_neg (by omega)]
  · show (fun y : S40x128.Idx => cols (lseCol (kargs m c)) (y 0) (y 1)) (ix2 y0 y1) = _
    exact congrArg (fun y : S40x128.Idx => cols (lseCol (kargs m c)) (y 0) (y 1)) (by blk_ext [idxOut t])

/-- The scales of the attention rows, of a step and a batch row. -/
def oScales (A : Args) : Fin 31 → Fin 40 → EReal := fun t b => scale (A.attn t b)

set_option maxHeartbeats 1600000 in
/-- The array of scales of the attention rows after the first grid point: its column, zero elsewhere. -/
theorem first20 (c : Dev nD) (t : Fin cfg0.N) (h0 : t.val % 31 = 0) (b : Fin 40) (l : Fin 128) :
    (outsAt0 m c t.val t.isLt).2.2.2.2.2.2.2.2.1 (ix2 b l) = if l.val = t.val then oScales (kargs m c) (step t) b else 0 := by
  rw [outsAt0_A m c t h0]; frame_out; refine (Loads.putSc0 (holds m c t) b l _ (grid0.coords t) (coord t)).trans ?_
  rw [show k0_pay5 (F := Ideal) (ix2 b l) = 0 from by pointwise [k0_pay5]]
  rfl

set_option maxHeartbeats 1600000 in
/-- The array of scales of the attention rows after a later grid point: its column, the rest as the point before left it. -/
theorem next20 (c : Dev nD) (t : Fin cfg0.N) (h0 : ¬t.val % 31 = 0) (b : Fin 40) (l : Fin 128) :
    (outsAt0 m c t.val t.isLt).2.2.2.2.2.2.2.2.1 (ix2 b l) = if l.val = t.val then oScales (kargs m c) (step t) b
      else (outsAt0 m c (t.val - 1) (Nat.lt_of_le_of_lt (Nat.sub_le _ _) t.isLt)).2.2.2.2.2.2.2.2.1 (ix2 b l) := by
  rw [outsAt0_B m c t h0]; frame_out; exact Loads.putSc0 (holds m c t) b l _ (grid0.coords t) (coord t)

/-- The array of scales of the attention rows, after the run. -/
theorem final20 (c : Dev nD) : (dats m 0 c).arrAt 20 (cfgs 0).N = fun y : S40x128.Idx => cols (oScales (kargs m c)) (y 0) (y 1) := by
  refine (dats m 0 c).arrAt_eq_of_covers 20 _ (by decide +kernel) fun t hf y => ?_
  have ht : t.val % 31 = 30 := (flush0_20 t).mp hf
  have hlt : t.val < 31 := t.isLt
  blk_simp
  rw [after0_20]
  idx_vars y
  refine (acc (oScales (kargs m c)) (fun n h b l => (outsAt0 m c n h).2.2.2.2.2.2.2.2.1 (ix2 b l))
    (fun h b l => first20 m c ⟨0, h⟩ rfl b l) (fun n h b l => next20 m c ⟨n + 1, h⟩ (by show ¬(n + 1) % 31 = 0; omega) b l)
    t.val t.isLt y0 y1).trans ?_
  refine Eq.trans (b := cols (oScales (kargs m c)) y0 y1) ?_ ?_
  · by_cases e : y1.val ≤ t.val
    · rw [if_pos e]
    · rw [if_neg e, cols, dif_neg (by omega)]
  · show (fun y : S40x128.Idx => cols (oScales (kargs m c)) (y 0) (y 1)) (ix2 y0 y1) = _
    exact congrArg (fun y : S40x128.Idx => cols (oScales (kargs m c)) (y 0) (y 1)) (by blk_ext [idxOut t])

/-- The scales of the normalised rows, of a step and a batch row. -/
def ff1Scales (A : Args) : Fin 31 → Fin 40 → EReal := fun t b => scale (A.n t b)

set_option maxHeartbeats 1600000 in
/-- The array of scales of the normalised rows after the first grid point: its column, zero elsewhere. -/
theorem first21 (c : Dev nD) (t : Fin cfg0.N) (h0 : t.val % 31 = 0) (b : Fin 40) (l : Fin 128) :
    (outsAt0 m c t.val t.isLt).2.2.2.2.2.2.2.2.2.1 (ix2 b l) = if l.val = t.val then ff1Scales (kargs m c) (step t) b else 0 := by
  rw [outsAt0_A m c t h0]; frame_out; rw [coord t]; refine (Loads.putSc1 (holds m c t) b l _).trans ?_
  rw [show k0_pay6 (F := Ideal) (ix2 b l) = 0 from by pointwise [k0_pay6]]
  rfl

set_option maxHeartbeats 1600000 in
/-- The array of scales of the normalised rows after a later grid point: its column, the rest as the point before left it. -/
theorem next21 (c : Dev nD) (t : Fin cfg0.N) (h0 : ¬t.val % 31 = 0) (b : Fin 40) (l : Fin 128) :
    (outsAt0 m c t.val t.isLt).2.2.2.2.2.2.2.2.2.1 (ix2 b l) = if l.val = t.val then ff1Scales (kargs m c) (step t) b
      else (outsAt0 m c (t.val - 1) (Nat.lt_of_le_of_lt (Nat.sub_le _ _) t.isLt)).2.2.2.2.2.2.2.2.2.1 (ix2 b l) := by
  rw [outsAt0_B m c t h0]; frame_out; rw [coord t]; exact Loads.putSc1 (holds m c t) b l _

/-- The array of scales of the normalised rows, after the run. -/
theorem final21 (c : Dev nD) : (dats m 0 c).arrAt 21 (cfgs 0).N = fun y : S40x128.Idx => cols (ff1Scales (kargs m c)) (y 0) (y 1) := by
  refine (dats m 0 c).arrAt_eq_of_covers 21 _ (by decide +kernel) fun t hf y => ?_
  have ht : t.val % 31 = 30 := (flush0_21 t).mp hf
  have hlt : t.val < 31 := t.isLt
  blk_simp
  rw [after0_21]
  idx_vars y
  refine (acc (ff1Scales (kargs m c)) (fun n h b l => (outsAt0 m c n h).2.2.2.2.2.2.2.2.2.1 (ix2 b l))
    (fun h b l => first21 m c ⟨0, h⟩ rfl b l) (fun n h b l => next21 m c ⟨n + 1, h⟩ (by show ¬(n + 1) % 31 = 0; omega) b l)
    t.val t.isLt y0 y1).trans ?_
  refine Eq.trans (b := cols (ff1Scales (kargs m c)) y0 y1) ?_ ?_
  · by_cases e : y1.val ≤ t.val
    · rw [if_pos e]
    · rw [if_neg e, cols, dif_neg (by omega)]
  · show (fun y : S40x128.Idx => cols (ff1Scales (kargs m c)) (y 0) (y 1)) (ix2 y0 y1) = _
    exact congrArg (fun y : S40x128.Idx => cols (ff1Scales (kargs m c)) (y 0) (y 1)) (by blk_ext [idxOut t])

/-- The scales of the gated product, of a step and a batch row. -/
def ff2Scales (A : Args) : Fin 31 → Fin 40 → EReal := fun t b => scale (A.g t b)

set_option maxHeartbeats 1600000 in
/-- The array of scales of the gated product after the first grid point: its column, zero elsewhere. -/
theorem first22 (c : Dev nD) (t : Fin cfg0.N) (h0 : t.val % 31 = 0) (b : Fin 40) (l : Fin 128) :
    (outsAt0 m c t.val t.isLt).2.2.2.2.2.2.2.2.2.2.1 (ix2 b l) = if l.val = t.val then ff2Scales (kargs m c) (step t) b else 0 := by
  rw [outsAt0_A m c t h0]; frame_out; rw [coord t]; refine (Loads.putSc2 (holds m c t) b l _).trans ?_
  rw [show k0_pay7 (F := Ideal) (ix2 b l) = 0 from by pointwise [k0_pay7]]
  rfl

set_option maxHeartbeats 1600000 in
/-- The array of scales of the gated product after a later grid point: its column, the rest as the point before left it. -/
theorem next22 (c : Dev nD) (t : Fin cfg0.N) (h0 : ¬t.val % 31 = 0) (b : Fin 40) (l : Fin 128) :
    (outsAt0 m c t.val t.isLt).2.2.2.2.2.2.2.2.2.2.1 (ix2 b l) = if l.val = t.val then ff2Scales (kargs m c) (step t) b
      else (outsAt0 m c (t.val - 1) (Nat.lt_of_le_of_lt (Nat.sub_le _ _) t.isLt)).2.2.2.2.2.2.2.2.2.2.1 (ix2 b l) := by
  rw [outsAt0_B m c t h0]; frame_out; rw [coord t]; exact Loads.putSc2 (holds m c t) b l _

/-- The array of scales of the gated product, after the run. -/
theorem final22 (c : Dev nD) : (dats m 0 c).arrAt 22 (cfgs 0).N = fun y : S40x128.Idx => cols (ff2Scales (kargs m c)) (y 0) (y 1) := by
  refine (dats m 0 c).arrAt_eq_of_covers 22 _ (by decide +kernel) fun t hf y => ?_
  have ht : t.val % 31 = 30 := (flush0_22 t).mp hf
  have hlt : t.val < 31 := t.isLt
  blk_simp
  rw [after0_22]
  idx_vars y
  refine (acc (ff2Scales (kargs m c)) (fun n h b l => (outsAt0 m c n h).2.2.2.2.2.2.2.2.2.2.1 (ix2 b l))
    (fun h b l => first22 m c ⟨0, h⟩ rfl b l) (fun n h b l => next22 m c ⟨n + 1, h⟩ (by show ¬(n + 1) % 31 = 0; omega) b l)
    t.val t.isLt y0 y1).trans ?_
  refine Eq.trans (b := cols (ff2Scales (kargs m c)) y0 y1) ?_ ?_
  · by_cases e : y1.val ≤ t.val
    · rw [if_pos e]
    · rw [if_neg e, cols, dif_neg (by omega)]
  · show (fun y : S40x128.Idx => cols (ff2Scales (kargs m c)) (y 0) (y 1)) (ix2 y0 y1) = _
    exact congrArg (fun y : S40x128.Idx => cols (ff2Scales (kargs m c)) (y 0) (y 1)) (by blk_ext [idxOut t])

/-- The scales of the residual rows after the layer, of a step and a batch row. -/
def headScales (A : Args) : Fin 31 → Fin 40 → EReal := fun t b => scale (A.x2 t b)

set_option maxHeartbeats 1600000 in
/-- The array of scales of the residual rows after the layer after the first grid point: its column, zero elsewhere. -/
theorem first23 (c : Dev nD) (t : Fin cfg0.N) (h0 : t.val % 31 = 0) (b : Fin 40) (l : Fin 128) :
    (outsAt0 m c t.val t.isLt).2.2.2.2.2.2.2.2.2.2.2 (ix2 b l) = if l.val = t.val then headScales (kargs m c) (step t) b else 0 := by
  rw [outsAt0_A m c t h0]; frame_out; rw [coord t]; refine (Loads.putSc3 (holds m c t) b l _).trans ?_
  rw [show k0_pay8 (F := Ideal) (ix2 b l) = 0 from by pointwise [k0_pay8]]
  rfl

set_option maxHeartbeats 1600000 in
/-- The array of scales of the residual rows after the layer after a later grid point: its column, the rest as the point before left it. -/
theorem next23 (c : Dev nD) (t : Fin cfg0.N) (h0 : ¬t.val % 31 = 0) (b : Fin 40) (l : Fin 128) :
    (outsAt0 m c t.val t.isLt).2.2.2.2.2.2.2.2.2.2.2 (ix2 b l) = if l.val = t.val then headScales (kargs m c) (step t) b
      else (outsAt0 m c (t.val - 1) (Nat.lt_of_le_of_lt (Nat.sub_le _ _) t.isLt)).2.2.2.2.2.2.2.2.2.2.2 (ix2 b l) := by
  rw [outsAt0_B m c t h0]; frame_out; rw [coord t]; exact Loads.putSc3 (holds m c t) b l _

/-- The array of scales of the residual rows after the layer, after the run. -/
theorem final23 (c : Dev nD) : (dats m 0 c).arrAt 23 (cfgs 0).N = fun y : S40x128.Idx => cols (headScales (kargs m c)) (y 0) (y 1) := by
  refine (dats m 0 c).arrAt_eq_of_covers 23 _ (by decide +kernel) fun t hf y => ?_
  have ht : t.val % 31 = 30 := (flush0_23 t).mp hf
  have hlt : t.val < 31 := t.isLt
  blk_simp
  rw [after0_23]
  idx_vars y
  refine (acc (headScales (kargs m c)) (fun n h b l => (outsAt0 m c n h).2.2.2.2.2.2.2.2.2.2.2 (ix2 b l))
    (fun h b l => first23 m c ⟨0, h⟩ rfl b l) (fun n h b l => next23 m c ⟨n + 1, h⟩ (by show ¬(n + 1) % 31 = 0; omega) b l)
    t.val t.isLt y0 y1).trans ?_
  refine Eq.trans (b := cols (headScales (kargs m c)) y0 y1) ?_ ?_
  · by_cases e : y1.val ≤ t.val
    · rw [if_pos e]
    · rw [if_neg e, cols, dif_neg (by omega)]
  · show (fun y : S40x128.Idx => cols (headScales (kargs m c)) (y 0) (y 1)) (ix2 y0 y1) = _
    exact congrArg (fun y : S40x128.Idx => cols (headScales (kargs m c)) (y 0) (y 1)) (by blk_ext [idxOut t])

end Cert.MlpIdeal.Value
-- ==== Proof.Equation.lean ====
module

public import proofs.«01_k».proof.Defs
public import proofs.«01_k».proof.Proof.RefArrays
public import proofs.«01_k».proof.Proof.StepArrays
public import proofs.«01_k».proof.Proof.ColumnArrays
public import Idealize.ShloMosaic.Lib.Claim

@[expose] public section

set_option maxRecDepth 16384
noncomputable section
open Idealize.ShloMosaic Idealize.SL.Sem
namespace Cert.Equation

/-! The kernel's arrays are the reference's. -/

/-- The two programs' arguments, read as the layer's, are the same when the argument arrays are. -/
theorem args_eq (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) :
    Cert.MlpRefIdeal.Ref.rargs (StableHlo.launchContents m' c) = Cert.MlpIdeal.Value.kargs m c := by
  obtain ⟨h0, h1, h2, h3, h4, h5, h6, h7, h8, h9, h10, h11⟩ := h
  show Cert.MlpRefIdeal.Ref.args (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) (m' ((c.tc : Thread Cert.MlpRefIdeal.nD Cert.MlpRefIdeal.τ).loc Cert.MlpRefIdeal.main_arg6)) (m' ((c.tc : Thread Cert.MlpRefIdeal.nD Cert.MlpRefIdeal.τ).loc Cert.MlpRefIdeal.main_arg7)) (m' ((c.tc : Thread Cert.MlpRefIdeal.nD Cert.MlpRefIdeal.τ).loc Cert.MlpRefIdeal.main_arg8)) (m' ((c.tc : Thread Cert.MlpRefIdeal.nD Cert.MlpRefIdeal.τ).loc Cert.MlpRefIdeal.main_arg9)) (m' ((c.tc : Thread Cert.MlpRefIdeal.nD Cert.MlpRefIdeal.τ).loc Cert.MlpRefIdeal.main_arg10)) (m' ((c.tc : Thread Cert.MlpRefIdeal.nD Cert.MlpRefIdeal.τ).loc Cert.MlpRefIdeal.main_arg11)) = _
  rw [h0, h1, h2, h3, h4, h5, h6, h7, h8, h9, h10, h11]
  rfl

set_option maxHeartbeats 1600000 in
/-- From the same arguments the kernel's run and the reference's run end with the same twelve results. -/
theorem algebraic : Cert.algebraic_MlpIdeal_MlpRefIdeal := by
  pair_intro
  · run_from Cert.MlpIdeal.Value.run_blocks m g
  · run_from Cert.MlpRefIdeal.Ref.run_arrays m' g'
    · rw [args_eq m m' c (hagree c)]; exact (Cert.MlpIdeal.Value.final12 m c).symm
    · rw [args_eq m m' c (hagree c)]; exact (Cert.MlpIdeal.Value.final13 m c).symm
    · rw [args_eq m m' c (hagree c)]; exact (Cert.MlpIdeal.Value.final14 m c).symm
    · rw [args_eq m m' c (hagree c)]; exact (Cert.MlpIdeal.Value.final15 m c).symm
    · rw [args_eq m m' c (hagree c)]; exact (Cert.MlpIdeal.Value.final16 m c).symm
    · rw [args_eq m m' c (hagree c)]; exact (Cert.MlpIdeal.Value.final17 m c).symm
    · rw [args_eq m m' c (hagree c)]; exact (Cert.MlpIdeal.Value.final18 m c).symm
    · rw [args_eq m m' c (hagree c)]; exact (Cert.MlpIdeal.Value.final19 m c).symm
    · rw [args_eq m m' c (hagree c)]; exact (Cert.MlpIdeal.Value.final20 m c).symm
    · rw [args_eq m m' c (hagree c)]; exact (Cert.MlpIdeal.Value.final21 m c).symm
    · rw [args_eq m m' c (hagree c)]; exact (Cert.MlpIdeal.Value.final22 m c).symm
    · rw [args_eq m m' c (hagree c)]; exact (Cert.MlpIdeal.Value.final23 m c).symm

end Cert.Equation
-- ==== Proof.AttnRow.lean ====
module

public import proofs.«01_k».proof.Proof.Rows

@[expose] public section

noncomputable section
open Idealize.ShloMosaic

namespace Cert.Attn

open Cert.Rows

/-! Causal attention over the extended reals, one head of one batch row at a time: queries, keys and values are functions
of a step and one of 128 components. Nothing here mentions a program. -/

/-- Minus infinity, as the 32-bit constant. -/
abbrev low : EReal := Ideal.ofBits .f32 4286578688#32

/-- That constant is the least extended real. -/
theorem low_eq : low = ⊥ := by
  simp [low, Ideal.ofBits, Ideal.ieee]

/-- The scaled product of a query and a key, in units of the logarithm to base two. -/
def score (q k : Fin 128 → EReal) : EReal :=
  (∑ d, q d * k d) * Ideal.ofBits .f32 0x3DB504F3#32 * Ideal.ofBits .f32 0x3FB8AA3B#32

/-- Two to the power of a row of scores less its largest one, rounded up. -/
def weight {n : ℕ} (s : Fin n → EReal) (j : Fin n) : EReal := Ideal.exp2 (s j - Ideal.liftRound Int.ceil (top s))

/-- The mean of values by the weights of a row of scores. -/
def mean {n : ℕ} (s v : Fin n → EReal) : EReal := Ideal.div (∑ j, weight s j * v j) (∑ j, weight s j)

/-- Step `t`'s scores: its own and earlier steps', minus infinity at later ones. -/
def scores (q k : Fin 31 → Fin 128 → EReal) (t s : Fin 31) : EReal := if s ≤ t then score (q t) (k s) else low

/-- Component `d` of what step `t` attends to. -/
def attend (q k v : Fin 31 → Fin 128 → EReal) (t : Fin 31) (d : Fin 128) : EReal := mean (scores q k t) fun s => v s d

/-- The largest entry of a row that is minus infinity outside the image of an injection is that of the entries inside. -/
theorem top_of_injection {n n' : ℕ} (e : Fin n → Fin n') (f : Fin n' → EReal) (h : ∀ j, j ∉ Set.range e → f j = low) :
    top f = top fun i => f (e i) := by
  apply eq_of_forall_ge_iff
  intro c
  unfold top
  rw [Finset.fold_max_le, Finset.fold_max_le]
  constructor
  · exact fun g => ⟨g.1, fun i _ => g.2 _ (Finset.mem_univ _)⟩
  · intro g
    refine ⟨g.1, fun j _ => ?_⟩
    by_cases hj : j ∈ Set.range e
    · obtain ⟨i, rfl⟩ := hj; exact g.2 i (Finset.mem_univ _)
    · rw [h j hj]; exact g.1

/-- A score of minus infinity has no weight. -/
theorem weight_low {n : ℕ} (s : Fin n → EReal) (j : Fin n) (h : s j = low) : weight s j = 0 := by
  unfold weight
  rw [h, low_eq, sub_eq_add_neg, EReal.bot_add, Ideal.exp2_bot]

/-- Entries with score minus infinity do not change the mean. -/
theorem mean_of_injection {n n' : ℕ} (e : Fin n → Fin n') (he : Function.Injective e) (s v : Fin n' → EReal)
    (h : ∀ j, j ∉ Set.range e → s j = low) : mean s v = mean (fun i => s (e i)) fun i => v (e i) := by
  have ht := top_of_injection e s h
  have hw : ∀ i, weight (fun i => s (e i)) i = weight s (e i) := fun i => by unfold weight; rw [ht]
  unfold mean
  congr 1
  · refine (Fintype.sum_of_injective e he _ _ (fun j hj => ?_) fun i => ?_).symm
    · rw [weight_low s j (h j hj), zero_mul]
    · rw [hw]
  · refine (Fintype.sum_of_injective e he _ _ (fun j hj => weight_low s j (h j hj)) fun i => hw i).symm

/-- The row of a flattened block of 31 steps by 8 batch rows. -/
def row (t : Fin 31) (b : Fin 8) : Fin 248 := ⟨t.val * 8 + b.val, by omega⟩

/-- A flattened block with other batch rows' and later steps' scores at minus infinity: what row `(t, b)` attends to is what
step `t` of batch row `b` does. -/
theorem mean_flat (q k v : Fin 31 → Fin 8 → Fin 128 → EReal) (s : Fin 248 → EReal) (w : Fin 248 → EReal) (t : Fin 31) (b : Fin 8) (d : Fin 128)
    (hs : ∀ t' b', s (row t' b') = if b = b' ∧ t' ≤ t then score (q t b) (k t' b') else low)
    (hw : ∀ t' b', w (row t' b') = v t' b' d) :
    mean s w = attend (fun t => q t b) (fun t => k t b) (fun t => v t b) t d := by
  rw [mean_of_injection (fun t' => row t' b) (fun x y h => by
      have := congrArg Fin.val h; simp only [row] at this; exact Fin.ext (by omega)) s w (fun j hj => ?_)]
  · unfold attend
    congr 1
    · funext t'; rw [hs]; unfold scores; simp
    · funext t'; exact hw t' b
  · have hj' : j = row ⟨j.val / 8, by omega⟩ ⟨j.val % 8, by omega⟩ := Fin.ext (by simp only [row]; omega)
    rw [hj', hs, if_neg]
    rintro ⟨rfl, -⟩
    exact hj ⟨_, hj'.symm⟩

/-- The attention output of every step and batch row, from the arrays of queries, keys and values beside one another: column
`l` is component `l % 128` of head `l / 128`. -/
def attnOf {n : ℕ} (x : Fin 31 → Fin n → Fin 3072 → EReal) (t : Fin 31) (b : Fin n) (l : Fin 1024) : EReal :=
  attend (fun t d => x t b ⟨l.val / 128 * 128 + d.val, by omega⟩) (fun t d => x t b ⟨1024 + (l.val / 128 * 128 + d.val), by omega⟩)
    (fun t d => x t b ⟨2048 + (l.val / 128 * 128 + d.val), by omega⟩) t ⟨l.val % 128, by omega⟩

/-- Two to a power, written with the base as the 32-bit constant 2. -/
theorem pow_two (x : EReal) : Ideal.pow (Ideal.ofBits .f32 0x40000000#32) x = Ideal.exp2 x := by
  have h2 : Ideal.ofBits .f32 0x40000000#32 = ((2 : ℝ) : EReal) := by
    simp [Ideal.ofBits, Ideal.ieee, -EReal.coe_mul]; norm_num
  rw [h2]
  induction x with
  | bot => rw [Ideal.pow_coe_bot, Ideal.exp2_bot]; norm_num
  | top => rw [Ideal.pow_coe_top, Ideal.exp2_top]; norm_num
  | coe r => rw [Ideal.pow_coe_coe, Ideal.exp2_coe]

end Cert.Attn
-- ==== Proof.AttnRef.lean ====
module

public import proofs.«01_k».proof.Proof.AttnRow
public import proofs.«01_k».proof.Proof.Gen.AttnRefIdeal.Read

@[expose] public section

set_option maxRecDepth 16384
noncomputable section
open Idealize.ShloMosaic Idealize.SL.Sem
namespace Cert.AttnRefIdeal.Ref
open Cert.AttnRefIdeal Cert.AttnRefIdeal.Read Cert.Rows Cert.Attn

/-! The array of the attention reference, an operation at a time. -/

variable (x : (⟨S31x40x3072, .f32⟩ : BufTy).Contents (Elt Ideal))

/-- The queries of a head: columns of the first third of the argument. -/
def q (b : Fin 40) (h : Fin 8) (t : Fin 31) (d : Fin 128) : EReal := x (ix3 t b ⟨h.val * 128 + d.val, by omega⟩)
/-- The keys of a head: columns of the second third. -/
def k (b : Fin 40) (h : Fin 8) (t : Fin 31) (d : Fin 128) : EReal := x (ix3 t b ⟨1024 + (h.val * 128 + d.val), by omega⟩)
/-- The values of a head: columns of the last third. -/
def v (b : Fin 40) (h : Fin 8) (t : Fin 31) (d : Fin 128) : EReal := x (ix3 t b ⟨2048 + (h.val * 128 + d.val), by omega⟩)

/-- The array of queries. -/
theorem q_apply (t : Fin 31) (b : Fin 40) (h : Fin 8) (d : Fin 128) : val_main_v4 x (ix4 t b h d) = q x b h t d := by
  rw [val_main_v4_apply, val_main_v3_apply, val_main_v0_apply]
  refine congrArg x (funext fun a => Fin.ext ?_)
  fin_cases a <;> simp [idx_main_v0, idx_main_v3, ix3, ix4] <;> omega

/-- The array of keys. -/
theorem k_apply (t : Fin 31) (b : Fin 40) (h : Fin 8) (d : Fin 128) : val_main_v6 x (ix4 t b h d) = k x b h t d := by
  rw [val_main_v6_apply, val_main_v5_apply, val_main_v1_apply]
  refine congrArg x (funext fun a => Fin.ext ?_)
  fin_cases a <;> simp [idx_main_v1, idx_main_v5, ix3, ix4] <;> omega

/-- The array of values. -/
theorem v_apply (t : Fin 31) (b : Fin 40) (h : Fin 8) (d : Fin 128) : val_main_v8 x (ix4 t b h d) = v x b h t d := by
  rw [val_main_v8_apply, val_main_v7_apply, val_main_v2_apply]
  refine congrArg x (funext fun a => Fin.ext ?_)
  fin_cases a <;> simp [idx_main_v2, idx_main_v7, ix3, ix4] <;> omega

/-- The comparison of two steps, on words. -/
theorem gt_word : ∀ t s : Fin 31, IntOp.cmpi .sgt (BitVec.ofNat 32 s.val) (BitVec.ofNat 32 t.val) = if s ≤ t then 0#1 else 1#1 := by
  decide +kernel

/-- The array of masked scores. -/
theorem s_apply (b : Fin 40) (h : Fin 8) (t s : Fin 31) : val_main_v20 x (ix4 b h t s) = scores (q x b h) (k x b h) t s := by
  have e : ∀ d : Fin 128, val_main_v4 x (lidx_main_v9 (ix4 b h t s) d) * val_main_v6 x (ridx_main_v9 (ix4 b h t s) d) = q x b h t d * k x b h s d := by
    intro d
    rw [show lidx_main_v9 (ix4 b h t s) d = ix4 t b h d from by funext a; fin_cases a <;> rfl,
      show ridx_main_v9 (ix4 b h t s) d = ix4 s b h d from by funext a; fin_cases a <;> rfl, q_apply, k_apply]
  rw [val_main_v20_apply, val_main_v19_apply, val_main_v11_apply, val_main_v9_apply, val_main_v10_apply, val_main_cst_apply, val_main_v18_apply,
    val_main_cst_0_apply, val_main_call0_v1_apply, val_main_v17_apply, val_main_v15_apply, val_main_v16_apply, val_main_v13_apply, val_main_v14_apply,
    val_main_v12_apply, val_main_v12_apply, val_main_call0_v2_apply, val_main_call0_v0_apply, val_main_cst_1_apply]
  simp only [e]
  refine (congrArg (fun w => Scalar.select w _ _) (gt_word t s)).trans ?_
  unfold scores
  by_cases hs : s ≤ t
  · rw [if_pos hs, if_pos hs]; rfl
  · rw [if_neg hs, if_neg hs]; rfl

/-- The array of the rows' largest scores. -/
theorem max_apply (b : Fin 40) (h : Fin 8) (t : Fin 31) : val_main_v21 x (ix3 b h t) = top (scores (q x b h) (k x b h) t) := by
  have e : ∀ s, val_main_v20 x (ix4 b h t s) = scores (q x b h) (k x b h) t s := s_apply x b h t
  unfold val_main_v21
  revert e
  generalize val_main_v20 (F := Ideal) x = y
  intro e
  pointwise [val_main_cst_2]
  simp only [e]
  rfl

/-- The array of weights. -/
theorem p_apply (b : Fin 40) (h : Fin 8) (t s : Fin 31) : val_main_v27 x (ix4 b h t s) = weight (scores (q x b h) (k x b h) t) s := by
  rw [val_main_v27_apply, val_main_v24_apply, val_main_cst_3_apply, val_main_v26_apply, s_apply, val_main_v25_apply, val_main_v23_apply, val_main_v22_apply,
    show idx_main_v22 (idx_main_v25 (ix4 b h t s)) = ix3 b h t from by funext a; fin_cases a <;> rfl, max_apply]
  exact pow_two _

/-- The array of the sums of weights. -/
theorem den_apply (b : Fin 40) (h : Fin 8) (t : Fin 31) : val_main_v28 x (ix3 b h t) = ∑ s, weight (scores (q x b h) (k x b h) t) s := by
  rw [val_main_v28_apply, val_main_cst_4_apply]
  have e : ∀ s : Fin 31, val_main_v27 x (idx_main_v28 (ix3 b h t) s) = weight (scores (q x b h) (k x b h) t) s := by
    intro s
    rw [show idx_main_v28 (ix3 b h t) s = ix4 b h t s from by funext a; fin_cases a <;> rfl, p_apply]
  simp only [e]
  show Ideal.ofBits .f32 0#32 + _ = _
  rw [Ideal.ofBits_zero_f32, zero_add]

/-- The array of weighted sums. -/
theorem num_apply (b : Fin 40) (h : Fin 8) (t : Fin 31) (d : Fin 128) :
    val_main_v30 x (ix4 b h d t) = ∑ s, weight (scores (q x b h) (k x b h) t) s * v x b h s d := by
  rw [val_main_v30_apply]
  refine Finset.sum_congr rfl fun s _ => ?_
  rw [show lidx_main_v30 (ix4 b h d t) s = ix4 s b h d from by funext a; fin_cases a <;> rfl,
    show ridx_main_v30 (ix4 b h d t) s = ix4 b h t s from by funext a; fin_cases a <;> rfl, v_apply, val_main_v29_apply, p_apply]
  exact mul_comm _ _

/-- The array of means, by head and component. -/
theorem mean_apply (b : Fin 40) (h : Fin 8) (t : Fin 31) (d : Fin 128) :
    val_main_v35 x (ix4 t b h d) = attend (q x b h) (k x b h) (v x b h) t d := by
  rw [val_main_v35_apply, val_main_v31_apply, val_main_v34_apply, val_main_v33_apply, val_main_v32_apply,
    show idx_main_v31 (ix4 t b h d) = ix4 b h d t from by funext a; fin_cases a <;> rfl,
    show idx_main_v32 (idx_main_v33 (idx_main_v34 (ix4 t b h d))) = ix3 b h t from by funext a; fin_cases a <;> rfl, num_apply, den_apply]
  rfl

/-- The reference's result: the attention output of the argument. -/
theorem out_apply (t : Fin 31) (b : Fin 40) (l : Fin 1024) : val_main_v36 x (ix3 t b l) = attnOf (fun t b l => x (ix3 t b l)) t b l := by
  rw [val_main_v36_apply, show idx_main_v36 (ix3 t b l) = ix4 t b (⟨l.val / 128, by omega⟩ : Fin 8) (⟨l.val % 128, by omega⟩ : Fin 128) from by
    refine funext fun a => Fin.ext ?_
    fin_cases a <;> simp [idx_main_v36, ix3, ix4] <;> omega, mean_apply]
  rfl

end Cert.AttnRefIdeal.Ref
-- ==== Proof.AttnMask.lean ====
module

public import proofs.«01_k».proof.Proof.Gen.AttnIdeal.Frame
public import proofs.«01_k».proof.Proof.AttnRow
public import Idealize.ShloMosaic.Lib.Pointwise

@[expose] public section

set_option maxRecDepth 16384
noncomputable section
open Idealize.ShloMosaic Idealize.SL.Sem
namespace Cert.AttnIdeal.Block
open Cert.AttnIdeal Cert.AttnIdeal.Gen Cert.Rows Cert.Attn

/-! The kernel's mask: the remainder and the quotient by eight of a row number, as the program computes them on words. -/

/-- The program's remainder by eight, on a word. -/
def modWord (w : BitVec 32) : BitVec 32 :=
  Scalar.select
    (IntOp.andi
      (IntOp.xori
        (IntOp.cmpi .slt (IntOp.remsi .vector w (Scalar.select (Scalar.cmpi .eq 8#32 0#32) 1#32 8#32)) 0#32)
        (Scalar.cmpi .slt (Scalar.select (Scalar.cmpi .eq 8#32 0#32) 1#32 8#32) 0#32))
      (IntOp.cmpi .ne (IntOp.remsi .vector w (Scalar.select (Scalar.cmpi .eq 8#32 0#32) 1#32 8#32)) 0#32))
    (IntOp.addi (IntOp.remsi .vector w (Scalar.select (Scalar.cmpi .eq 8#32 0#32) 1#32 8#32))
      (Scalar.select (Scalar.cmpi .eq 8#32 0#32) 1#32 8#32))
    (IntOp.remsi .vector w (Scalar.select (Scalar.cmpi .eq 8#32 0#32) 1#32 8#32))

/-- The program's quotient by eight, on a word. -/
def divWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 8#32 0#32)) (Scalar.extui (Scalar.cmpi .slt 8#32 0#32))))
      (IntOp.cmpi .ne (IntOp.remsi .vector w 8#32) 0#32))
    (IntOp.subi (IntOp.divsi .vector w 8#32) 1#32)
    (IntOp.divsi .vector w 8#32)

/-- The remainder of a row number is its batch row. -/
theorem modWord_row : ∀ (t : Fin 31) (b : Fin 8), modWord (BitVec.ofNat 32 (row t b).val) = BitVec.ofNat 32 b.val := by decide +kernel

/-- The quotient of a row number is its step. -/
theorem divWord_row : ∀ (t : Fin 31) (b : Fin 8), divWord (BitVec.ofNat 32 (row t b).val) = BitVec.ofNat 32 t.val := by decide +kernel

/-- Two batch rows as words are equal when they are. -/
theorem eq_word : ∀ b b' : Fin 8, IntOp.cmpi .eq (BitVec.ofNat 32 b.val) (BitVec.ofNat 32 b'.val) = if b = b' then 1#1 else 0#1 := by
  decide +kernel

/-- Two steps as words compare as they do. -/
theorem le_word : ∀ t t' : Fin 31, IntOp.cmpi .sle (BitVec.ofNat 32 t'.val) (BitVec.ofNat 32 t.val) = if t' ≤ t then 1#1 else 0#1 := by
  decide +kernel

/-- The batch rows' part of the mask. -/
theorem pay2 (r c : Fin 248) : k0_pay2 (ix2 r c) = IntOp.cmpi .eq (modWord (BitVec.ofNat 32 r.val)) (modWord (BitVec.ofNat 32 c.val)) := by
  pointwise [k0_pay2]
  rfl

/-- The mask. -/
theorem pay27 (x y z : Vec Ideal S31x8x1024 .f32) (r c : Fin 248) : k0_pay27 x y z (ix2 r c)
    = IntOp.andi (k0_pay2 (ix2 r c)) (IntOp.cmpi .sle (divWord (BitVec.ofNat 32 c.val)) (divWord (BitVec.ofNat 32 r.val))) := by
  pointwise [k0_pay27, k0_pay5, k0_pay3, k0_pay4]
  rfl

/-- A mask that is true where the batch rows agree and the key's step is not later than the query's. -/
def IsMask (M : IVec S248x248 1) : Prop :=
  ∀ t b t' b', M (ix2 (row t b) (row t' b')) = if b = b' ∧ t' ≤ t then 1#1 else 0#1

/-- The kernel's mask is that one. -/
theorem isMask (x y z : Vec Ideal S31x8x1024 .f32) : IsMask (k0_pay27 x y z) := by
  intro t b t' b'
  rw [pay27, pay2, modWord_row, modWord_row, divWord_row, divWord_row, eq_word, le_word]
  by_cases h : b = b' <;> by_cases h' : t' ≤ t <;> simp [h, h'] <;> rfl

end Cert.AttnIdeal.Block
-- ==== Proof.AttnBlock.lean ====
module

public import proofs.«01_k».proof.Proof.Gen.AttnIdeal.Frame
public import proofs.«01_k».proof.Proof.AttnMask
public import Idealize.ShloMosaic.Lib.Pointwise

@[expose] public section

set_option maxRecDepth 16384
noncomputable section
open Idealize.ShloMosaic Idealize.SL.Sem
namespace Cert.AttnIdeal.Block
open Cert.AttnIdeal Cert.AttnIdeal.Gen Cert.Rows Cert.Attn

/-! What the kernel's body computes for one head. -/

/-- The step of a flattened row. -/
theorem step_row (t : Fin 31) (b : Fin 8) (h : (t.val * 8 + b.val) / 8 < 31) : (⟨(t.val * 8 + b.val) / 8, h⟩ : Fin 31) = t :=
  Fin.ext (by show (t.val * 8 + b.val) / 8 = t.val; omega)

/-- The batch row of a flattened row. -/
theorem batch_row (t : Fin 31) (b : Fin 8) (h : (t.val * 8 + b.val) % 8 < 8) : (⟨(t.val * 8 + b.val) % 8, h⟩ : Fin 8) = b :=
  Fin.ext (by show (t.val * 8 + b.val) % 8 = b.val; omega)

/-- The masked scores of one flattened row, over queries and keys of one head. -/
def masked (M : IVec S248x248 1) (q k : Vec Ideal S31x8x128 .f32) (t : Fin 31) (b : Fin 8) (x : Fin 248) : EReal :=
  Scalar.select (M (ix2 (row t b) x)) (score (fun d => q (ix3 t b d)) fun d => k (ix3 ⟨x.val / 8, by omega⟩ ⟨x.val % 8, by omega⟩ d)) low

/-- The mean of a head's values by its masked scores is what the step attends to in its own batch row. -/
theorem mean_masked (M : IVec S248x248 1) (hM : IsMask M) (q k v : Vec Ideal S31x8x128 .f32) (t : Fin 31) (b : Fin 8) (d : Fin 128) :
    mean (masked M q k t b) (fun x => v (ix3 ⟨x.val / 8, by omega⟩ ⟨x.val % 8, by omega⟩ d))
      = attend (fun t d => q (ix3 t b d)) (fun t d => k (ix3 t b d)) (fun t d => v (ix3 t b d)) t d := by
  refine mean_flat (fun t b d => q (ix3 t b d)) (fun t b d => k (ix3 t b d)) (fun t b d => v (ix3 t b d)) _ _ t b d (fun t' b' => ?_) fun t' b' => ?_
  · unfold masked
    rw [hM]
    simp only [row, step_row, batch_row]
    split <;> rfl
  · simp only [row, step_row, batch_row]

/-- Head 0's stored block: each entry is what its step attends to. -/
theorem head0 (M : IVec S248x248 1) (hM : IsMask M) (q k v : Vec Ideal S31x8x128 .f32) (t : Fin 31) (b : Fin 8) (d : Fin 128) :
    (k0_pay7 M (k0_pay6 q) k v) (ix3 t b d) = attend (fun t d => q (ix3 t b d)) (fun t d => k (ix3 t b d)) (fun t d => v (ix3 t b d)) t d := by
  rw [← mean_masked M hM]
  pointwise [k0_pay7, k0_pay6]
  simp only [step_row, batch_row]
  rfl

/-- Head 1's stored block: each entry is what its step attends to. -/
theorem head1 (M : IVec S248x248 1) (hM : IsMask M) (q k v : Vec Ideal S31x8x128 .f32) (t : Fin 31) (b : Fin 8) (d : Fin 128) :
    (k0_pay11 M (k0_pay8 q) (k0_pay9 k) (k0_pay10 v)) (ix3 t b d) = attend (fun t d => q (ix3 t b d)) (fun t d => k (ix3 t b d)) (fun t d => v (ix3 t b d)) t d := by
  rw [← mean_masked M hM]
  pointwise [k0_pay11, k0_pay8, k0_pay9, k0_pay10]
  simp only [step_row, batch_row]
  rfl

/-- Head 2's stored block: each entry is what its step attends to. -/
theorem head2 (M : IVec S248x248 1) (hM : IsMask M) (q k v : Vec Ideal S31x8x128 .f32) (t : Fin 31) (b : Fin 8) (d : Fin 128) :
    (k0_pay15 M (k0_pay12 v) (k0_pay13 q k) (k0_pay14 (F := Ideal))) (ix3 t b d) = attend (fun t d => q (ix3 t b d)) (fun t d => k (ix3 t b d)) (fun t d => v (ix3 t b d)) t d := by
  rw [← mean_masked M hM]
  pointwise [k0_pay15, k0_pay12, k0_pay13, k0_pay14]
  simp only [step_row, batch_row]
  rfl

/-- Head 3's stored block: each entry is what its step attends to. -/
theorem head3 (M : IVec S248x248 1) (hM : IsMask M) (q k v : Vec Ideal S31x8x128 .f32) (t : Fin 31) (b : Fin 8) (d : Fin 128) :
    (k0_pay19 (k0_pay16 v) (k0_pay17 M q k) (k0_pay18 M q k)) (ix3 t b d) = attend (fun t d => q (ix3 t b d)) (fun t d => k (ix3 t b d)) (fun t d => v (ix3 t b d)) t d := by
  rw [← mean_masked M hM]
  pointwise [k0_pay19, k0_pay16, k0_pay17, k0_pay18]
  simp only [step_row, batch_row]
  rfl

/-- Head 4's stored block: each entry is what its step attends to. -/
theorem head4 (M : IVec S248x248 1) (hM : IsMask M) (q k v : Vec Ideal S31x8x128 .f32) (t : Fin 31) (b : Fin 8) (d : Fin 128) :
    (k0_pay20 M q k v) (ix3 t b d) = attend (fun t d => q (ix3 t b d)) (fun t d => k (ix3 t b d)) (fun t d => v (ix3 t b d)) t d := by
  rw [← mean_masked M hM]
  pointwise [k0_pay20]
  simp only [step_row, batch_row]
  rfl

/-- Head 5's stored block: each entry is what its step attends to. -/
theorem head5 (M : IVec S248x248 1) (hM : IsMask M) (q k v : Vec Ideal S31x8x128 .f32) (t : Fin 31) (b : Fin 8) (d : Fin 128) :
    (k0_pay21 M q k v) (ix3 t b d) = attend (fun t d => q (ix3 t b d)) (fun t d => k (ix3 t b d)) (fun t d => v (ix3 t b d)) t d := by
  rw [← mean_masked M hM]
  pointwise [k0_pay21]
  simp only [step_row, batch_row]
  rfl

/-- Head 6's stored block: each entry is what its step attends to. -/
theorem head6 (M : IVec S248x248 1) (hM : IsMask M) (q k v : Vec Ideal S31x8x128 .f32) (t : Fin 31) (b : Fin 8) (d : Fin 128) :
    (k0_pay23 M (k0_pay22 q) k v) (ix3 t b d) = attend (fun t d => q (ix3 t b d)) (fun t d => k (ix3 t b d)) (fun t d => v (ix3 t b d)) t d := by
  rw [← mean_masked M hM]
  pointwise [k0_pay23, k0_pay22]
  simp only [step_row, batch_row]
  rfl

/-- Head 7's stored block: each entry is what its step attends to. -/
theorem head7 (M : IVec S248x248 1) (hM : IsMask M) (q k v : Vec Ideal S31x8x128 .f32) (t : Fin 31) (b : Fin 8) (d : Fin 128) :
    (k0_pay1 M (k0_pay24 q) (k0_pay25 k) (k0_pay26 v)) (ix3 t b d) = attend (fun t d => q (ix3 t b d)) (fun t d => k (ix3 t b d)) (fun t d => v (ix3 t b d)) t d := by
  rw [← mean_masked M hM]
  pointwise [k0_pay1, k0_pay24, k0_pay25, k0_pay26]
  simp only [step_row, batch_row]
  rfl

end Cert.AttnIdeal.Block
-- ==== Proof.AttnArrays.lean ====
module

public import proofs.«01_k».proof.Proof.AttnBlock
public import proofs.«01_k».proof.Proof.Gen.AttnIdeal.Value
public import Idealize.ShloMosaic.Lib.Pipeline.ValueKit
public import Idealize.ShloMosaic.Lib.VecWindow

@[expose] public section

set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.Rows Cert.Attn Cert.AttnIdeal.Block
variable (m : (ℓ : Loc nD τ sig) → Buf (Elt Ideal) ℓ)

/-! The kernel's array after the run. -/

/-- What a grid point computes from its blocks of queries, keys and values. -/
def block (x0 x1 x2 : Vec Ideal S31x8x1024 .f32) (t : Fin 31) (b : Fin 8) (l : Fin 1024) : EReal :=
  attend (fun t d => x0 (ix3 t b ⟨l.val / 128 * 128 + d.val, by omega⟩)) (fun t d => x1 (ix3 t b ⟨l.val / 128 * 128 + d.val, by omega⟩))
    (fun t d => x2 (ix3 t b ⟨l.val / 128 * 128 + d.val, by omega⟩)) t ⟨l.val % 128, by omega⟩

/-- A head's columns of a block: its entries. -/
theorem ld_head (X : Vec Ideal S31x8x1024 .f32) (q : ℕ) (inb) (t : Fin 31) (b : Fin 8) (d : Fin 128) (h : q + d.val < 1024) :
    View.ld X (Rect.unit (s := S31x8x1024) ![0, 0, q] S31x8x128.size inb) (ix3 t b d) = X (ix3 t b ⟨q + d.val, h⟩) := by
  show X _ = X _
  congr 1; funext a; fin_cases a <;> apply Fin.ext <;> simp [Rect.unit, ix3]

/-- One head's entries, written at its columns of the block: column `l` is component `d` of the head whose first column is `q`. -/
theorem block_head (x0 x1 x2 : Vec Ideal S31x8x1024 .f32) (q : ℕ) (hq : q % 128 = 0) (inb) (t t' : Fin 31) (b b' : Fin 8) (d : Fin 128)
    (l : Fin 1024) (ht : t'.val = t.val) (hb : b'.val = b.val) (hl : l.val = q + d.val) :
    attend (fun t d => View.ld x0 (Rect.unit (s := S31x8x1024) ![0, 0, q] S31x8x128.size inb) (ix3 t b d))
      (fun t d => View.ld x1 (Rect.unit (s := S31x8x1024) ![0, 0, q] S31x8x128.size inb) (ix3 t b d))
      (fun t d => View.ld x2 (Rect.unit (s := S31x8x1024) ![0, 0, q] S31x8x128.size inb) (ix3 t b d)) t d = block x0 x1 x2 t' b' l := by
  obtain rfl : t' = t := Fin.ext ht
  obtain rfl : b' = b := Fin.ext hb
  have e : l.val / 128 * 128 = q := by omega
  have e' : l.val % 128 = d.val := by omega
  have hd : ∀ d : Fin 128, q + d.val < 1024 := fun d => by omega
  have k : ∀ X : Vec Ideal S31x8x1024 .f32, (fun (t : Fin 31) (d : Fin 128) => View.ld X (Rect.unit (s := S31x8x1024) ![0, 0, q] S31x8x128.size inb) (ix3 t b' d))
      = fun t d => X (ix3 t b' ⟨q + d.val, hd d⟩) := fun X => by
    funext t d; exact ld_head X q inb t b' d (hd d)
  rw [k, k, k]
  unfold block
  simp only [e, e']

set_option maxHeartbeats 1600000 in
/-- What a grid point leaves in its block of the output. -/
theorem out_apply (x0 x1 x2 : Vec Ideal S31x8x1024 .f32) (y : S31x8x1024.Idx) : out0_3 x0 x1 x2 y = block x0 x1 x2 (y 0) (y 1) (y 2) := by
  have hM := isMask x0 x1 x2
  unfold out0_3
  generalize k0_pay27 x0 x1 x2 = M at hM ⊢
  canon_tiles x h
  all_goals idx_vars x
  · refine (head7 M hM (View.ld _ r0_7) (View.ld _ r0_7) (View.ld _ r0_7) _ _ _).trans ?_
    exact block_head _ _ _ 896 rfl inb_S31x8x1024_S31x8x128_0_0_896 _ _ _ _ _ _ h0 h1 h2
  · refine (head6 M hM (View.ld _ r0_6) (View.ld _ r0_6) (View.ld _ r0_6) _ _ _).trans ?_
    exact block_head _ _ _ 768 rfl inb_S31x8x1024_S31x8x128_0_0_768 _ _ _ _ _ _ h0 h1 h2
  · refine (head5 M hM (View.ld _ r0_5) (View.ld _ r0_5) (View.ld _ r0_5) _ _ _).trans ?_
    exact block_head _ _ _ 640 rfl inb_S31x8x1024_S31x8x128_0_0_640 _ _ _ _ _ _ h0 h1 h2
  · refine (head4 M hM (View.ld _ r0_4) (View.ld _ r0_4) (View.ld _ r0_4) _ _ _).trans ?_
    exact block_head _ _ _ 512 rfl inb_S31x8x1024_S31x8x128_0_0_512 _ _ _ _ _ _ h0 h1 h2
  · refine (head3 M hM (View.ld _ r0_3) (View.ld _ r0_3) (View.ld _ r0_3) _ _ _).trans ?_
    exact block_head _ _ _ 384 rfl inb_S31x8x1024_S31x8x128_0_0_384 _ _ _ _ _ _ h0 h1 h2
  · refine (head2 M hM (View.ld _ r0_2) (View.ld _ r0_2) (View.ld _ r0_2) _ _ _).trans ?_
    exact block_head _ _ _ 256 rfl inb_S31x8x1024_S31x8x128_0_0_256 _ _ _ _ _ _ h0 h1 h2
  · refine (head1 M hM (View.ld _ r0_1) (View.ld _ r0_1) (View.ld _ r0_1) _ _ _).trans ?_
    exact block_head _ _ _ 128 rfl inb_S31x8x1024_S31x8x128_0_0_128 _ _ _ _ _ _ h0 h1 h2
  · refine (head0 M hM (View.ld _ r0_0) (View.ld _ r0_0) (View.ld _ r0_0) _ _ _).trans ?_
    exact block_head _ _ _ 0 rfl inb_S31x8x1024_S31x8x128_0_0_0 _ _ _ _ _ _ h0 h1 (by simpa using h2)

/-- The block index of each window at each grid point. -/
theorem idx : ∀ t : Fin cfg0.N, win0_0.index t = ![0, t.val, 0] ∧ win0_1.index t = ![0, t.val, 1] ∧ win0_2.index t = ![0, t.val, 2]
    ∧ win0_3.index t = ![0, t.val, 0] :=
  (by decide +kernel : ∀ t : Fin grid0.N, _)

/-- The batch row of the whole array that row `b` of point `t`'s block is. -/
abbrev batch (t : Fin cfg0.N) (b : Fin 8) : Fin 40 := ⟨t.val * 8 + b.val, by have : t.val < 5 := t.isLt; omega⟩

/-- The queries of a grid point, in the argument. -/
theorem read0 (c : Dev nD) (t : Fin cfg0.N) (s : Fin 31) (b : Fin 8) (l : Fin 1024) :
    iblk m c 0 t (ix3 s b l) = m ((c : Thread nD τ).loc main_arg0) (ix3 s (batch t b) ⟨l.val, by omega⟩) := by
  blk_ext [iblk, V, idx t]

/-- The keys of a grid point, in the argument. -/
theorem read1 (c : Dev nD) (t : Fin cfg0.N) (s : Fin 31) (b : Fin 8) (l : Fin 1024) :
    iblk m c 1 t (ix3 s b l) = m ((c : Thread nD τ).loc main_arg0) (ix3 s (batch t b) ⟨1024 + l.val, by omega⟩) := by
  blk_ext [iblk, V, idx t]

/-- The values of a grid point, in the argument. -/
theorem read2 (c : Dev nD) (t : Fin cfg0.N) (s : Fin 31) (b : Fin 8) (l : Fin 1024) :
    iblk m c 2 t (ix3 s b l) = m ((c : Thread nD τ).loc main_arg0) (ix3 s (batch t b) ⟨2048 + l.val, by omega⟩) := by
  blk_ext [iblk, V, idx t]

/-- The attention output as an array. -/
def attn (x : Vec Ideal S31x40x3072 .f32) (y : S31x40x1024.Idx) : EReal := attnOf (fun t b l => x (ix3 t b l)) (y 0) (y 1) (y 2)

/-- The array after the run is the attention output of the argument. -/
theorem final3 (c : Dev nD) : (dats m 0 c).arrAt 3 (cfgs 0).N = attn (m ((c : Thread nD τ).loc main_arg0)) := by
  refine (dats m 0 c).arrAt_eq_of_covers 3 _ (by decide +kernel) fun t hf y => ?_
  blk_simp
  rw [after0_3]
  idx_vars y
  refine (out_apply _ _ _ _).trans ?_
  show block _ _ _ y0 y1 y2 = _
  unfold block
  simp only [read0, read1, read2]
  show attn (m ((c : Thread nD τ).loc main_arg0)) (ix3 y0 (batch t y1) y2) = _
  exact congrArg (attn (m ((c : Thread nD τ).loc main_arg0))) (by blk_ext [idx t])

end Cert.AttnIdeal.Value
-- ==== Proof.AttnEquation.lean ====
module

public import proofs.«01_k».proof.Defs
public import proofs.«01_k».proof.Proof.AttnRef
public import proofs.«01_k».proof.Proof.AttnArrays
public import Idealize.ShloMosaic.Lib.Claim

@[expose] public section

set_option maxRecDepth 16384
noncomputable section
open Idealize.ShloMosaic Idealize.ShloMosaic.TcCoe Idealize.SL.Sem
namespace Cert.AttnEquation
open Cert.Attn

/-! The attention kernel's array is the reference's. -/

/-- The reference's run ends with its result at the attention output of the argument. -/
theorem run_array (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ fun r =>
      ∀ c : Dev Cert.AttnRefIdeal.nD,
        r.2.mem ((c.tc : Thread Cert.AttnRefIdeal.nD Cert.AttnRefIdeal.τ).loc Cert.AttnRefIdeal.main_v36)
          = Cert.AttnIdeal.Value.attn (m ((c.tc : Thread Cert.AttnRefIdeal.nD Cert.AttnRefIdeal.τ).loc Cert.AttnRefIdeal.main_arg0))
        ∧ r.2.mem ((c.tc : Thread Cert.AttnRefIdeal.nD Cert.AttnRefIdeal.τ).loc Cert.AttnRefIdeal.main_arg0)
          = m ((c.tc : Thread Cert.AttnRefIdeal.nD Cert.AttnRefIdeal.τ).loc Cert.AttnRefIdeal.main_arg0) :=
  (θ_run Cert.AttnRefIdeal.defs _ _).mono (fun r h c => ⟨(h c).1.trans ((Cert.AttnRefIdeal.Read.val_main_v36_eq m c).trans (by
      funext y
      have e : y = ix3 (y 0) (y 1) (y 2) := by funext a; fin_cases a <;> rfl
      rw [e]
      exact Cert.AttnRefIdeal.Ref.out_apply _ (y 0) (y 1) (y 2))), (h c).2⟩) (Cert.AttnRefIdeal.Value.run m ρ)

/-- From the same argument the kernel's run and the reference's run end with the same result. -/
theorem algebraic : Cert.algebraic_AttnIdeal_AttnRefIdeal := by
  pair_intro
  · run_from Cert.AttnIdeal.Value.run_blocks m g
  · run_from run_array m' g'
    exact (Cert.AttnIdeal.Value.final3 m c).symm

end Cert.AttnEquation
-- ==== Proof.QkvLayer.lean ====
module

public import proofs.«01_k».proof.Proof.Rows

@[expose] public section

noncomputable section
open Idealize.ShloMosaic
namespace Cert.QkvLayer
open Cert.Rows

/-! The residual input, its normalised rows and the projections of every step and batch row, as functions of the arguments. -/

/-- The arguments: the ids, the text rows, the codes and scales of the in-projection's input, its weights and scales, the
tables' codes, scales and projections, the weights and scales of the second projection, and the gain. -/
structure Args where
  ids : Fin 40 → Fin 31 → BitVec 32
  text : Fin 40 → Fin 1024 → EReal
  ic : Fin 40 → Fin 3072 → BitVec 8
  isc : Fin 40 → EReal
  wi : Fin 31 → Fin 3072 → Fin 1024 → BitVec 8
  si : Fin 31 → Fin 1024 → EReal
  ac : Fin 30 → Fin 2051 → Fin 128 → BitVec 8
  asc : Fin 30 → Fin 2051 → EReal
  ap : Fin 30 → Fin 128 → Fin 1024 → EReal
  wq : Fin 31 → Fin 1024 → Fin 3072 → BitVec 8
  sq : Fin 31 → Fin 3072 → EReal
  gain : Fin 1024 → EReal

/-- The row of a table that an index word names: the word as a signed integer, clipped to the table. -/
def row (id : BitVec 32) : Fin 2051 := ⟨min id.toInt.toNat 2050, by omega⟩

/-- A row of signed bytes times a scale, projected. -/
def embed (a : Fin 128 → BitVec 8) (s : EReal) (p : Fin 128 → Fin 1024 → EReal) (o : Fin 1024) : EReal :=
  ∑ r, (((a r).toInt : ℝ) : EReal) * s * p r o

namespace Args
variable (A : Args)

/-- The embedding of the id of step `k`, from table `k`. -/
def audio (k : Fin 30) (b : Fin 40) (o : Fin 1024) : EReal :=
  embed (A.ac k (row (A.ids b ⟨k.val, by omega⟩))) (A.asc k (row (A.ids b ⟨k.val, by omega⟩))) (A.ap k) o

/-- What is added to the in-projection: the text row at step 0, then the embedding of the step before. -/
def emb (t : Fin 31) (b : Fin 40) (o : Fin 1024) : EReal :=
  if h : t.val = 0 then A.text b o else A.audio ⟨t.val - 1, by omega⟩ b o

/-- The residual input. -/
def x (t : Fin 31) (b : Fin 40) (o : Fin 1024) : EReal :=
  (∑ i, (((A.ic b i).toInt : ℝ) : EReal) * (((A.wi t i o).toInt : ℝ) : EReal)) * A.isc b * A.si t o + A.emb t b o

/-- The normalised rows. -/
def n (t : Fin 31) (b : Fin 40) : Fin 1024 → EReal := Cert.Rows.norm (A.x t b) A.gain

/-- The queries, keys and values. -/
def qkv (t : Fin 31) (b : Fin 40) (o : Fin 3072) : EReal := proj (A.n t b) (A.wq t) (A.sq t) o

/-- Every id names a row of its table, and the tables' scales and projections are finite. -/
structure Good : Prop where
  id : ∀ b (k : Fin 30), A.ids b ⟨k.val, by omega⟩ = BitVec.ofNat 32 (row (A.ids b ⟨k.val, by omega⟩)).val
  asc : ∀ k j, ∃ r : ℝ, A.asc k j = (r : EReal)
  ap : ∀ k r o, ∃ q : ℝ, A.ap k r o = (q : EReal)
end Args

/-- A word between 0 and 2050 is the number of the row that it names. -/
theorem row_eq (id : BitVec 32) (h0 : 0 ≤ id.toInt) (h1 : id.toInt < 2051) : id = BitVec.ofNat 32 (row id).val := by
  apply BitVec.eq_of_toInt_eq
  have : (row id).val = id.toInt.toNat := by show min _ _ = _; omega
  rw [this, BitVec.toInt_ofNat', Int.toNat_of_nonneg h0]
  symm
  exact Int.bmod_eq_of_le (by norm_num; omega) (by norm_num; omega)

/-- A finite sum of real numbers, as an extended real. -/
theorem coe_sum {n : ℕ} (f : Fin n → ℝ) : ((∑ k, f k : ℝ) : EReal) = ∑ k, ((f k : ℝ) : EReal) := by
  induction (Finset.univ : Finset (Fin n)) using Finset.induction with
  | empty => simp
  | insert a s ha ih => rw [Finset.sum_insert ha, Finset.sum_insert ha, EReal.coe_add, ih]

/-- The kernel's three products with the parts of a finite projection, scaled after the sum, are the embedding. -/
theorem split_embed (a : Fin 128 → BitVec 8) (s : EReal) (p : Fin 128 → Fin 1024 → EReal) (o : Fin 1024)
    (hs : ∃ r : ℝ, s = (r : EReal)) (hp : ∀ r o, ∃ q : ℝ, p r o = (q : EReal)) :
    ((∑ r, (((a r).toInt : ℝ) : EReal) * p r o) + ((∑ r, (((a r).toInt : ℝ) : EReal) * (p r o - p r o))
      + ∑ r, (((a r).toInt : ℝ) : EReal) * (p r o - p r o - (p r o - p r o)))) * s = embed a s p o := by
  obtain ⟨σ, rfl⟩ := hs
  choose q hq using hp
  unfold embed
  simp only [hq]
  have e : ∀ r, ((q r o : ℝ) : EReal) - ((q r o : ℝ) : EReal) = 0 := fun r => by
    rw [← EReal.coe_sub, sub_self]; rfl
  simp only [e, sub_zero, mul_zero, Finset.sum_const_zero, add_zero, ← EReal.coe_mul, ← coe_sum]
  congr 1
  rw [Finset.sum_mul]
  exact Finset.sum_congr rfl fun r _ => by ring
end Cert.QkvLayer
-- ==== Proof.QkvRef.lean ====
module

public import proofs.«01_k».proof.Proof.Gen.QkvRefIdeal.Read
public import proofs.«01_k».proof.Proof.QkvLayer
public import proofs.«01_k».proof.Proof.Ref

@[expose] public section

set_option maxRecDepth 16384
noncomputable section
open Idealize.ShloMosaic Idealize.SL.Sem
namespace Cert.QkvRefIdeal.Ref
open Cert.QkvRefIdeal Cert.QkvRefIdeal.Read Cert.Rows Cert.QkvLayer
open Cert.MlpRefIdeal.Ref (sitofp_ext select_scale amax_eq clip_eq)

/-! What each array of the reference holds, entry by entry, as the functions of the arguments. -/

/-- An index word that is not negative is not wrapped around. -/
theorem wrap (w n : BitVec 32) (h : 0 ≤ w.toInt) : Scalar.select (IntOp.cmpi .slt w 0#32) (IntOp.addi w n) w = w := by
  have e : IntOp.cmpi .slt w 0#32 = 0#1 := by
    have : w.slt 0#32 = false := by simp [BitVec.slt, h]
    show BitVec.ofBool (w.slt 0#32) = 0#1
    rw [this]; rfl
  rw [e]; rfl

/-- The number of a step, as an index word. -/
theorem step_nonneg : ∀ k : Fin 30, 0 ≤ (BitVec.ofNat 32 k.val).toInt := by decide

/-- The number of a step, as a clamped start. -/
theorem step_start : ∀ k : Fin 30, min (BitVec.ofNat 32 k.val).toInt.toNat 29 = k.val := by decide

/-- The gather of rows of codes at an entry: the table and the row that the two start words name, clamped. -/
theorem gather_codes (x : (⟨S30x2051x128, .i8⟩ : BufTy).Contents (Elt Ideal)) (idx : IVec S40x30x2 32) (b : Fin 40) (k : Fin 30) (r : Fin 128) :
    Host.gather gather_S30x2051x128_S40x30x2_S40x30x128_2_01_n_n_01_2_11128 x idx (ix3 b k r)
      = x (ix3 ⟨min (idx (ix3 b k 0)).toInt.toNat 29, by omega⟩ ⟨min (idx (ix3 b k 1)).toInt.toNat 2050, by omega⟩ r) := by
  unfold Host.gather
  congr 1
  funext a
  refine Fin.ext ?_
  show GatherDims.start _ (ix3 b k r) idx a + GatherDims.batchCoord _ (ix3 b k r) a + GatherDims.offCoord _ (ix3 b k r) a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    refine congrArg (fun i => min (idx i).toInt.toNat 29) (?_ : _ = ix3 b k 0)
    funext d; refine Fin.ext ?_
    match d with
    | ⟨0, _⟩ => rfl
    | ⟨1, _⟩ => rfl
    | ⟨2, _⟩ => rfl
  | ⟨1, _⟩ =>
    rw [GatherDims.offCoord_eq_zero _ _ _ (by decide +revert), Nat.add_zero]
    unfold GatherDims.start
    rw [dif_pos (by decide +revert)]
    refine congrArg (fun i => min (idx i).toInt.toNat 2050) (?_ : _ = ix3 b k 1)
    funext d; refine Fin.ext ?_
    match d with
    | ⟨0, _⟩ => rfl
    | ⟨1, _⟩ => rfl
    | ⟨2, _⟩ => rfl
  | ⟨2, _⟩ =>
    unfold GatherDims.start GatherDims.offCoord
    rw [dif_neg (by decide +revert), dif_pos (by decide +revert), Nat.zero_add]
    rfl

/-- The gather of scales at an entry: the table and the row that the two start words name, clamped. -/
theorem gather_scales (x : (⟨S30x2051, .f32⟩ : BufTy).Contents (Elt Ideal)) (idx : IVec S40x30x2 32) (b : Fin 40) (k : Fin 30) :
    Host.gather gather_S30x2051_S40x30x2_S40x30_n_01_n_n_01_2_11 x idx (ix2 b k)
      = x (ix2 ⟨min (idx (ix3 b k 0)).toInt.toNat 29, by omega⟩ ⟨min (idx (ix3 b k 1)).toInt.toNat 2050, by omega⟩) := by
  unfold Host.gather
  congr 1
  funext a
  refine Fin.ext ?_
  show GatherDims.start _ (ix2 b k) idx a + GatherDims.batchCoord _ (ix2 b k) a + GatherDims.offCoord _ (ix2 b k) a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    refine congrArg (fun i => min (idx i).toInt.toNat 29) (?_ : _ = ix3 b k 0)
    funext d; refine Fin.ext ?_
    match d with
    | ⟨0, _⟩ => rfl
    | ⟨1, _⟩ => rfl
    | ⟨2, _⟩ => rfl
  | ⟨1, _⟩ =>
    rw [GatherDims.offCoord_eq_zero _ _ _ (by decide +revert), Nat.add_zero]
    unfold GatherDims.start
    rw [dif_pos (by decide +revert)]
    refine congrArg (fun i => min (idx i).toInt.toNat 2050) (?_ : _ = ix3 b k 1)
    funext d; refine Fin.ext ?_
    match d with
    | ⟨0, _⟩ => rfl
    | ⟨1, _⟩ => rfl
    | ⟨2, _⟩ => rfl

/-- Two columns of words side by side: the first column. -/
theorem pair_fst (u v : IVec S40x30x1 32) (h) (b : Fin 40) (k : Fin 30) :
    concatenate S40x30x2 2 [⟨S40x30x1, u⟩, ⟨S40x30x1, v⟩] h (ix3 b k 0) = u (ix3 b k 0) :=
  concatenate_pair_apply_left (t := S40x30x2) (s₁ := S40x30x1) (s₂ := S40x30x1) (2 : Fin 3) u v h _ rfl (ix3 b k 0) (by
    intro d
    match d with
    | ⟨0, _⟩ => rfl
    | ⟨1, _⟩ => rfl
    | ⟨2, _⟩ => rfl)

/-- Two columns of words side by side: the second column. -/
theorem pair_snd (u v : IVec S40x30x1 32) (h) (b : Fin 40) (k : Fin 30) :
    concatenate S40x30x2 2 [⟨S40x30x1, u⟩, ⟨S40x30x1, v⟩] h (ix3 b k 1) = v (ix3 b k 0) :=
  concatenate_pair_apply_right (t := S40x30x2) (s₁ := S40x30x1) (s₂ := S40x30x1) (2 : Fin 3) u v h _ rfl rfl (ix3 b k 0) (by
    intro d hd
    match d with
    | ⟨0, _⟩ => rfl
    | ⟨1, _⟩ => rfl
    | ⟨2, _⟩ => exact absurd rfl hd) rfl

variable (x0 : (⟨S40x31, .i32⟩ : BufTy).Contents (Elt Ideal)) (x1 : (⟨S40x1024, .f32⟩ : BufTy).Contents (Elt Ideal))
  (x2 : (⟨S40x3072, .i8⟩ : BufTy).Contents (Elt Ideal)) (x3 : (⟨S40x1, .f32⟩ : BufTy).Contents (Elt Ideal))
  (x4 : (⟨S31x3072x1024, .i8⟩ : BufTy).Contents (Elt Ideal)) (x5 : (⟨S31x1024, .f32⟩ : BufTy).Contents (Elt Ideal))
  (x6 : (⟨S30x2051x128, .i8⟩ : BufTy).Contents (Elt Ideal)) (x7 : (⟨S30x2051, .f32⟩ : BufTy).Contents (Elt Ideal))
  (x8 : (⟨S30x128x1024, .f32⟩ : BufTy).Contents (Elt Ideal)) (x9 : (⟨S31x1024x3072, .i8⟩ : BufTy).Contents (Elt Ideal))
  (x10 : (⟨S31x3072, .f32⟩ : BufTy).Contents (Elt Ideal)) (x11 : (⟨S1024, .f32⟩ : BufTy).Contents (Elt Ideal))

/-- The arguments, read off the twelve arrays. -/
def args : QkvLayer.Args where
  ids b t := x0 (ix2 b t)
  text b o := x1 (ix2 b o)
  ic b i := x2 (ix2 b i)
  isc b := x3 (ix2 b 0)
  wi t i o := x4 (ix3 t i o)
  si t o := x5 (ix2 t o)
  ac k j r := x6 (ix3 k j r)
  asc k j := x7 (ix2 k j)
  ap k r o := x8 (ix3 k r o)
  wq t i o := x9 (ix3 t i o)
  sq t o := x10 (ix2 t o)
  gain i := x11 (ix1 i)

/-- The ids of the first thirty steps are not negative. -/
def Nonneg : Prop := ∀ (b : Fin 40) (k : Fin 30), 0 ≤ (x0 (ix2 b ⟨k.val, by omega⟩)).toInt

/-- The first start word of the gathers: the step. -/
theorem table14 (b : Fin 40) (k : Fin 30) : val_main_v14 (F := Ideal) (ix3 b k 0) = BitVec.ofNat 32 k.val := by
  rw [val_main_v14_apply, val_main_v13_apply, val_main_v7_apply, val_main_v4_apply, val_main_v6_apply, val_main_v3_apply, val_main_v5_apply, val_main_v1_apply, val_main_v0_apply]
  exact wrap _ _ (step_nonneg k)

/-- The same words, for the scales. -/
theorem table31 (b : Fin 40) (k : Fin 30) : val_main_v31 (F := Ideal) (ix3 b k 0) = BitVec.ofNat 32 k.val := by
  rw [val_main_v31_apply, val_main_v30_apply, val_main_v24_apply, val_main_v21_apply, val_main_v23_apply, val_main_v20_apply, val_main_v22_apply, val_main_v1_apply, val_main_v0_apply]
  exact wrap _ _ (step_nonneg k)

variable (hx : Nonneg x0)
include hx

/-- The second start word of the gathers: the id. -/
theorem id15 (b : Fin 40) (k : Fin 30) : val_main_v15 (F := Ideal) x0 (ix3 b k 0) = x0 (ix2 b ⟨k.val, by omega⟩) := by
  have e : val_main_v2 (F := Ideal) x0 (ix2 b k) = x0 (ix2 b ⟨k.val, by omega⟩) := by
    rw [val_main_v2_apply]; exact congrArg x0 (by funext a; fin_cases a <;> apply Fin.ext <;> simp [idx_main_v2, ix2])
  rw [val_main_v15_apply, val_main_v12_apply, val_main_v9_apply, val_main_v11_apply, val_main_v8_apply, val_main_v10_apply,
    show idx_main_v15 (ix3 b k 0) = ix2 b k from by funext a; fin_cases a <;> rfl, e]
  exact wrap _ _ (hx b k)

/-- The same words, for the scales. -/
theorem id32 (b : Fin 40) (k : Fin 30) : val_main_v32 (F := Ideal) x0 (ix3 b k 0) = x0 (ix2 b ⟨k.val, by omega⟩) := by
  have e : val_main_v2 (F := Ideal) x0 (ix2 b k) = x0 (ix2 b ⟨k.val, by omega⟩) := by
    rw [val_main_v2_apply]; exact congrArg x0 (by funext a; fin_cases a <;> apply Fin.ext <;> simp [idx_main_v2, ix2])
  rw [val_main_v32_apply, val_main_v29_apply, val_main_v26_apply, val_main_v28_apply, val_main_v25_apply, val_main_v27_apply,
    show idx_main_v32 (ix3 b k 0) = ix2 b k from by funext a; fin_cases a <;> rfl, e]
  exact wrap _ _ (hx b k)

/-- The gathered rows of codes. -/
theorem codes17 (b : Fin 40) (k : Fin 30) (r : Fin 128) :
    val_main_v17 x0 x6 (ix3 b k r) = x6 (ix3 k (row (x0 (ix2 b ⟨k.val, by omega⟩))) r) := by
  unfold val_main_v17 val_main_v16
  rw [gather_codes]
  simp only [pair_fst, pair_snd, table14, id15 x0 hx, step_start]
  rfl

/-- The gathered scales. -/
theorem scales34 (b : Fin 40) (k : Fin 30) :
    val_main_v34 x0 x7 (ix2 b k) = x7 (ix2 k (row (x0 (ix2 b ⟨k.val, by omega⟩)))) := by
  unfold val_main_v34 val_main_v33
  rw [gather_scales]
  simp only [pair_fst, pair_snd, table31, id32 x0 hx, step_start]
  rfl

/-- The embeddings. -/
theorem audio38 (k : Fin 30) (b : Fin 40) (o : Fin 1024) : val_main_v38 x0 x6 x7 x8 (ix3 k b o) = (args x0 x1 x2 x3 x4 x5 x6 x7 x8 x9 x10 x11).audio k b o := by
  have e : ∀ q : Fin 128, val_main_v37 x0 x6 x7 (lidx_main_v38 (ix3 k b o) q) * x8 (ridx_main_v38 (ix3 k b o) q)
      = (((x6 (ix3 k (row (x0 (ix2 b ⟨k.val, by omega⟩))) q)).toInt : ℝ) : EReal) * x7 (ix2 k (row (x0 (ix2 b ⟨k.val, by omega⟩)))) * x8 (ix3 k q o) := by
    intro q
    rw [show lidx_main_v38 (ix3 k b o) q = ix3 b k q from by funext a; fin_cases a <;> rfl,
      show ridx_main_v38 (ix3 k b o) q = ix3 k q o from by funext a; fin_cases a <;> rfl, val_main_v37_apply, val_main_v19_apply, val_main_v18_apply, sitofp_ext,
      codes17 x0 x6 hx, val_main_v36_apply, val_main_v35_apply,
      show idx_main_v35 (idx_main_v36 (ix3 b k q)) = ix2 b k from by funext a; fin_cases a <;> rfl, scales34 x0 x7 hx]
    rfl
  rw [val_main_v38_apply]
  simp only [e]
  rfl

/-- What is added to the in-projection. -/
theorem emb52 (t : Fin 31) (b : Fin 40) (o : Fin 1024) : val_main_v52 x0 x1 x6 x7 x8 (ix3 t b o) = (args x0 x1 x2 x3 x4 x5 x6 x7 x8 x9 x10 x11).emb t b o := by
  unfold val_main_v52 Args.emb
  by_cases h : t.val = 0
  · rw [dif_pos h]
    refine (concatenate_pair_apply_left (t := S31x40x1024) (s₁ := S1x40x1024) (s₂ := S30x40x1024) (0 : Fin 3) _ _ _ _ rfl (ix3 0 b o) (by
      intro d
      match d with
      | ⟨0, _⟩ => exact h.symm
      | ⟨1, _⟩ => rfl
      | ⟨2, _⟩ => rfl)).trans ?_
    rw [val_main_v51_apply]
    exact congrArg x1 (by funext a; fin_cases a <;> rfl)
  · rw [dif_neg h]
    refine (concatenate_pair_apply_right (t := S31x40x1024) (s₁ := S1x40x1024) (s₂ := S30x40x1024) (0 : Fin 3) _ _ _ (ix3 t b o) rfl rfl
      (ix3 (⟨t.val - 1, by omega⟩ : Fin 30) b o) (by
      intro d hd
      match d with
      | ⟨0, _⟩ => exact absurd rfl hd
      | ⟨1, _⟩ => rfl
      | ⟨2, _⟩ => rfl) (show t.val - 1 + 1 = t.val by omega)).trans ?_
    exact audio38 x0 x1 x2 x3 x4 x5 x6 x7 x8 x9 x10 x11 hx _ b o

/-- The residual input. -/
theorem xv53 (t : Fin 31) (b : Fin 40) (o : Fin 1024) : val_main_v53 x0 x1 x2 x3 x4 x5 x6 x7 x8 (ix3 t b o) = (args x0 x1 x2 x3 x4 x5 x6 x7 x8 x9 x10 x11).x t b o := by
  have e : ∀ q : Fin 3072, val_main_v42 x4 (lidx_main_v43 (ix3 t o b) q) * val_main_v40 x2 (ridx_main_v43 (ix3 t o b) q)
      = (((x2 (ix2 b q)).toInt : ℝ) : EReal) * (((x4 (ix3 t q o)).toInt : ℝ) : EReal) := by
    intro q
    rw [show lidx_main_v43 (ix3 t o b) q = ix3 t q o from by funext a; fin_cases a <;> rfl,
      show ridx_main_v43 (ix3 t o b) q = ix2 b q from by funext a; fin_cases a <;> rfl, val_main_v42_apply, val_main_v41_apply, sitofp_ext,
      val_main_v40_apply, val_main_v39_apply, sitofp_ext, mul_comm]
  rw [val_main_v53_apply, val_main_v50_apply, val_main_v47_apply, val_main_v44_apply,
    show idx_main_v44 (ix3 t b o) = ix3 t o b from by funext a; fin_cases a <;> rfl, val_main_v43_apply, val_main_v46_apply, val_main_v45_apply,
    val_main_v49_apply, val_main_v48_apply, emb52 x0 x1 x2 x3 x4 x5 x6 x7 x8 x9 x10 x11 hx]
  simp only [e]
  rw [show idx_main_v45 (idx_main_v46 (ix3 t b o)) = ix2 b 0 from by funext a; fin_cases a <;> rfl,
    show idx_main_v48 (idx_main_v49 (ix3 t b o)) = ix2 t o from by funext a; fin_cases a <;> rfl]
  rfl

/-- The normalised rows. -/
theorem nv66 (t : Fin 31) (b : Fin 40) (i : Fin 1024) : val_main_v66 x0 x1 x2 x3 x4 x5 x6 x7 x8 x11 (ix3 t b i) = (args x0 x1 x2 x3 x4 x5 x6 x7 x8 x9 x10 x11).n t b i := by
  pointwise [val_main_v54, val_main_cst, val_main_v55, val_main_v56, val_main_cst_7, val_main_v57, val_main_v58, val_main_cst_8, val_main_v59, val_main_v60, val_main_v61, val_main_v62, val_main_v63, val_main_v64, val_main_v65, val_main_v66]
  simp only [xv53 x0 x1 x2 x3 x4 x5 x6 x7 x8 x9 x10 x11 hx, Ideal.ofBits_zero_f32, zero_add]
  rfl

/-- The largest absolute value of the normalised rows. -/
theorem amaxv68 (t : Fin 31) (b : Fin 40) : val_main_v68 x0 x1 x2 x3 x4 x5 x6 x7 x8 x11 (ix2 t b) = amax ((args x0 x1 x2 x3 x4 x5 x6 x7 x8 x9 x10 x11).n t b) := by
  unfold val_main_v68
  have e : ∀ i, val_main_v67 x0 x1 x2 x3 x4 x5 x6 x7 x8 x11 (ix3 t b i) = FloatOps.absf (F := Ideal) (φ := .f32) (((args x0 x1 x2 x3 x4 x5 x6 x7 x8 x9 x10 x11).n t b) i) := by
    intro i
    rw [val_main_v67_apply, nv66 x0 x1 x2 x3 x4 x5 x6 x7 x8 x9 x10 x11 hx]
    rfl
  revert e
  generalize val_main_v67 (F := Ideal) x0 x1 x2 x3 x4 x5 x6 x7 x8 x11 = y
  intro e
  pointwise [val_main_cst_9]
  simp only [e]
  exact amax_eq _

/-- The scale of the normalised rows. -/
theorem scalev73 (t : Fin 31) (b : Fin 40) : val_main_v73 x0 x1 x2 x3 x4 x5 x6 x7 x8 x11 (ix2 t b) = scale ((args x0 x1 x2 x3 x4 x5 x6 x7 x8 x9 x10 x11).n t b) := by
  rw [val_main_v73_apply, val_main_v70_apply, val_main_v72_apply, amaxv68 x0 x1 x2 x3 x4 x5 x6 x7 x8 x9 x10 x11 hx]
  simp only [val_main_cst_10_apply, val_main_v69_apply, val_main_cst_11_apply, val_main_v71_apply, val_main_cst_12_apply, val_main_call0_v0_apply, val_main_call0_v1_apply]
  exact select_scale _

/-- The clipped rounding of the normalised rows. -/
theorem codev78 (t : Fin 31) (b : Fin 40) (i : Fin 1024) : val_main_v78 x0 x1 x2 x3 x4 x5 x6 x7 x8 x11 (ix3 t b i) = code ((args x0 x1 x2 x3 x4 x5 x6 x7 x8 x9 x10 x11).n t b) i := by
  rw [val_main_v78_apply, val_main_call2_v2_apply, val_main_v77_apply, val_main_v76_apply, val_main_v75_apply, val_main_v74_apply]
  simp only [val_main_c_13_apply, val_main_c_14_apply, val_main_call2_v0_apply, val_main_call2_v1_apply, val_main_call2_v3_apply, val_main_call2_v4_apply]
  rw [show idx_main_v74 (idx_main_v75 (ix3 t b i)) = ix2 t b from by funext a; fin_cases a <;> rfl, scalev73 x0 x1 x2 x3 x4 x5 x6 x7 x8 x9 x10 x11 hx, nv66 x0 x1 x2 x3 x4 x5 x6 x7 x8 x9 x10 x11 hx]
  exact clip_eq _ _

/-- The codes of the normalised rows. -/
theorem wordv80 (t : Fin 31) (b : Fin 40) (i : Fin 1024) : val_main_v80 x0 x1 x2 x3 x4 x5 x6 x7 x8 x11 (ix3 t b i) = word ((args x0 x1 x2 x3 x4 x5 x6 x7 x8 x9 x10 x11).n t b) i := by
  pointwise [val_main_v79, val_main_v80]; rw [codev78 x0 x1 x2 x3 x4 x5 x6 x7 x8 x9 x10 x11 hx]; exact trunc_clip _

/-- The codes of the normalised rows, as numbers again. -/
theorem numv82 (t : Fin 31) (b : Fin 40) (i : Fin 1024) : val_main_v82 x0 x1 x2 x3 x4 x5 x6 x7 x8 x11 (ix3 t b i) = code ((args x0 x1 x2 x3 x4 x5 x6 x7 x8 x9 x10 x11).n t b) i := by
  pointwise [val_main_v81, val_main_v82]; rw [wordv80 x0 x1 x2 x3 x4 x5 x6 x7 x8 x9 x10 x11 hx, sitofp_ext]; exact word_toInt _ _

/-- The queries, keys and values. -/
theorem qkvv91 (t : Fin 31) (b : Fin 40) (o : Fin 3072) : val_main_v91 x0 x1 x2 x3 x4 x5 x6 x7 x8 x9 x10 x11 (ix3 t b o) = (args x0 x1 x2 x3 x4 x5 x6 x7 x8 x9 x10 x11).qkv t b o := by
  have e : ∀ q : Fin 1024, val_main_v82 x0 x1 x2 x3 x4 x5 x6 x7 x8 x11 (lidx_main_v85 (ix3 t b o) q) * val_main_v84 x9 (ridx_main_v85 (ix3 t b o) q)
      = code ((args x0 x1 x2 x3 x4 x5 x6 x7 x8 x9 x10 x11).n t b) q * (((x9 (ix3 t q o)).toInt : ℝ) : EReal) := by
    intro q
    rw [show lidx_main_v85 (ix3 t b o) q = ix3 t b q from by funext a; fin_cases a <;> rfl,
      show ridx_main_v85 (ix3 t b o) q = ix3 t q o from by funext a; fin_cases a <;> rfl, numv82 x0 x1 x2 x3 x4 x5 x6 x7 x8 x9 x10 x11 hx, val_main_v84_apply, val_main_v83_apply, sitofp_ext]
  rw [val_main_v91_apply, val_main_v88_apply, val_main_v85_apply, val_main_v87_apply, val_main_v86_apply, val_main_v90_apply, val_main_v89_apply]
  simp only [e]
  rw [show idx_main_v86 (idx_main_v87 (ix3 t b o)) = ix2 t b from by funext a; fin_cases a <;> rfl,
    show idx_main_v89 (idx_main_v90 (ix3 t b o)) = ix2 t o from by funext a; fin_cases a <;> rfl, scalev73 x0 x1 x2 x3 x4 x5 x6 x7 x8 x9 x10 x11 hx]
  rfl
end Cert.QkvRefIdeal.Ref
-- ==== Proof.QkvBlock.lean ====
module

public import proofs.«01_k».proof.Proof.Gen.QkvIdeal.Skeleton
public import proofs.«01_k».proof.Proof.QkvLayer

@[expose] public section

set_option maxRecDepth 16384
noncomputable section
open Idealize.ShloMosaic Idealize.SL.Sem
namespace Cert.QkvIdeal.Block
open Cert.QkvIdeal Cert.QkvIdeal.Gen Cert.Rows Cert.QkvLayer

/-! What one grid point computes, from the blocks it loads. -/

section
variable {a : BitVec 32} {k : Fin 31} (ha : Scalar.subi a 1#32 = BitVec.ofNat 32 k.val) (ids : Vec Ideal S40x31 .i32) (b : Fin 40)
include ha

/-- The mask of the table's row that column `k` of the ids names. -/
theorem pay2 (j : Fin 2051) : k0_pay2 (F := Ideal) a ids (ix2 b j) = IntOp.cmpi .eq (BitVec.ofNat 32 j.val) (ids (ix2 b k)) := by
  have key : (∑ x : Fin 31, FloatOps.sitofp (F := Ideal) FTy.f32
      (Scalar.select (IntOp.cmpi CmpIPredicate.eq (BitVec.ofNat 32 ↑x) (BitVec.ofNat 32 k.val)) (ids (ix2 b x)) 0#32))
      = (((ids (ix2 b k)).toInt : ℝ) : EReal) := by
    rw [Finset.sum_eq_single k]
    · rw [show IntOp.cmpi CmpIPredicate.eq (BitVec.ofNat 32 k.val) (BitVec.ofNat 32 k.val) = 1#1 from by simp [IntOp.cmpi]]
      rfl
    · intro x _ hx
      have hne : BitVec.ofNat 32 x.val ≠ BitVec.ofNat 32 k.val := by
        intro h; apply hx; apply Fin.ext
        have := congrArg BitVec.toNat h
        simp only [BitVec.toNat_ofNat] at this
        omega
      rw [show IntOp.cmpi CmpIPredicate.eq (BitVec.ofNat 32 x.val) (BitVec.ofNat 32 k.val) = 0#1 from by
        simp [IntOp.cmpi, beq_eq_false_iff_ne.mpr hne]]
      show (((0#32).toInt : ℝ) : EReal) = 0
      simp
    · intro h; exact absurd (Finset.mem_univ _) h
  pointwise [k0_pay2]
  rw [ha, key, show FloatOps.fptosi (F := Ideal) (φ := .f32) 32 ((((ids (ix2 b k)).toInt : ℝ) : EReal)) = ids (ix2 b k) from fptosi_toInt _]

variable {j0 : Fin 2051} (hj : ids (ix2 b k) = BitVec.ofNat 32 j0.val)
include hj

/-- A choice on the mask is a choice on the row's number. -/
theorem pay2_select (j : Fin 2051) {α : Type} (u v : α) : Scalar.select (k0_pay2 (F := Ideal) a ids (ix2 b j)) u v = if j = j0 then u else v := by
  rw [pay2 ha, hj]
  by_cases h : j = j0
  · subst h; simp [IntOp.cmpi, Scalar.select]
  · have hne : BitVec.ofNat 32 j.val ≠ BitVec.ofNat 32 j0.val := by
      intro e; apply h; apply Fin.ext
      have := congrArg BitVec.toNat e
      simp only [BitVec.toNat_ofNat] at this
      omega
    rw [if_neg h]; simp [IntOp.cmpi, Scalar.select, beq_eq_false_iff_ne.mpr hne]

/-- The row of the table, picked out by a product with the mask. -/
theorem pay3 (w : Vec Ideal S1x2051x128 .i8) (r : Fin 128) : k0_pay3 a ids w (ix2 b r) = (((w (ix3 0 j0 r)).toInt : ℝ) : EReal) := by
  pointwise [k0_pay3]
  simp only [pay2_select ha ids b hj]
  rw [Finset.sum_eq_single j0]
  · rw [if_pos rfl]
    first | rfl | (show Ideal.ofBits .f32 _ * _ = _; rw [Ideal.ofBits_one_f32, one_mul]; rfl) | (rw [one_mul]; rfl)
  · intro x _ hx
    rw [if_neg hx]
  · intro h; exact absurd (Finset.mem_univ _) h

/-- The row's scale, picked out by a sum over the mask. -/
theorem pay4 (w : Vec Ideal S1x2051 .f32) : k0_pay4 a ids w (ix2 b 0) = w (ix2 0 j0) := by
  pointwise [k0_pay4]
  simp only [pay2_select ha ids b hj]
  rw [Finset.sum_eq_single j0]
  · rw [if_pos rfl]
  · intro x _ hx
    rw [if_neg hx]
  · intro h; exact absurd (Finset.mem_univ _) h

/-- The embedding of the id that column `k` holds. -/
theorem pay14 (w : Vec Ideal S1x2051x128 .i8) (s : Vec Ideal S1x2051 .f32) (p : Vec Ideal S1x128x1024 .f32)
    (hs : ∃ r : ℝ, s (ix2 0 j0) = (r : EReal)) (hp : ∀ r o, ∃ q : ℝ, p (ix3 0 r o) = (q : EReal)) (o : Fin 1024) :
    k0_pay14 (k0_pay3 a ids w) (k0_pay4 a ids s) (k0_pay6 p) (k0_pay8 p) (k0_pay9 p) (constant S40x1024 .f32 0x00000000#32) (ix3 0 b o)
      = embed (fun r => w (ix3 0 j0 r)) (s (ix2 0 j0)) (fun r o => p (ix3 0 r o)) o := by
  pointwise [k0_pay14, k0_pay6, k0_pay8, k0_pay9, k0_pay7, k0_pay5]
  simp only [pay3 ha ids b hj, pay4 ha ids b hj]

  exact split_embed (fun r => w (ix3 0 j0 r)) (s (ix2 0 j0)) (fun r o => p (ix3 0 r o)) o hs hp
end

/-- The text rows. -/
theorem pay10 (v : Vec Ideal S40x1024 .f32) (b : Fin 40) (o : Fin 1024) : k0_pay10 v (ix3 0 b o) = v (ix2 b o) := by
  pointwise [k0_pay10]

/-- The in-projection of a row of codes, scaled, plus the embedding. -/
theorem pay15 (v6 : Vec Ideal S40x3072 .i8) (v8 : Vec Ideal S1x3072x1024 .i8) (v12 : Vec Ideal S40x1 .f32) (v16 : Vec Ideal S1x1024 .f32)
    (v19 : Vec Ideal S1x40x1024 .f32) (b : Fin 40) (o : Fin 1024) :
    k0_pay15 v6 v8 v12 v16 v19 (ix2 b o) = (∑ i, (((v6 (ix2 b i)).toInt : ℝ) : EReal) * (((v8 (ix3 0 i o)).toInt : ℝ) : EReal)) * v12 (ix2 b 0) * v16 (ix2 0 o)
      + v19 (ix3 0 b o) := by
  pointwise [k0_pay15]; rfl

section
variable {v6 : Vec Ideal S40x3072 .i8} {v8 : Vec Ideal S1x3072x1024 .i8} {v12 : Vec Ideal S40x1 .f32} {v16 : Vec Ideal S1x1024 .f32}
  {v19 : Vec Ideal S1x40x1024 .f32} {x : Fin 40 → Fin 1024 → EReal} (hx : ∀ b o, k0_pay15 v6 v8 v12 v16 v19 (ix2 b o) = x b o)
  (b : Fin 40) (i : Fin 1024)
include hx

/-- The residual input stored. -/
theorem pay16 : k0_pay16 v6 v8 v12 v16 v19 (ix3 0 b i) = x b i := by
  pointwise [k0_pay16]; rw [hx]

/-- The residual input normalised, with the loaded gain. -/
theorem pay19 (v25 : Vec Ideal S1x1024 .f32) :
    k0_pay19 (k0_pay15 v6 v8 v12 v16 v19) (k0_pay17 v25) (k0_pay18 v6 v8 v12 v16 v19) (Scalar.ofBits .f32 0x3727C5AC#32) (ix2 b i)
      = Cert.Rows.norm (x b) (fun i => v25 (ix2 0 i)) i := by
  pointwise [k0_pay19, k0_pay17, k0_pay18]; simp only [hx]; rfl
end

section
variable {v21 : FVec Ideal S40x1024 .f32} {v26 : FVec Ideal S1x1024 .f32} {v31 : FVec Ideal S40x1 .f32} {e : Ideal .f32}
  {n : Fin 40 → Fin 1024 → EReal} (hn : ∀ b i, k0_pay19 v21 v26 v31 e (ix2 b i) = n b i) (b : Fin 40) (i : Fin 1024)
include hn

/-- The kernel's scale of a normalised row. -/
theorem pay20 : k0_pay20 v21 v26 v31 e (ix2 b 0) = scale (n b) := by
  pointwise [k0_pay20]; simp only [hn]; rfl

/-- The kernel's codes of a normalised row. -/
theorem pay21 : k0_pay21 v21 v26 v31 e (ix2 b i) = code (n b) i := by
  pointwise [k0_pay21]; rw [pay20 hn, hn]; rfl

/-- The signed bytes it stores for a normalised row. -/
theorem pay22 : k0_pay22 v21 v26 v31 e (ix3 0 b i) = word (n b) i := by
  pointwise [k0_pay22]; rw [pay21 hn]; rfl

/-- The codes in the narrow format: the same numbers. -/
theorem pay24 : k0_pay24 v21 v26 v31 e (ix2 b i) = code (n b) i := by
  pointwise [k0_pay24]; rw [pay21 hn]

/-- The queries, keys and values stored: the projection of the quantised row. -/
theorem pay27 (w : Vec Ideal S1x1024x3072 .i8) (s : Vec Ideal S1x3072 .f32) (o : Fin 3072) :
    k0_pay27 (k0_pay20 v21 v26 v31 e) (k0_pay24 v21 v26 v31 e) (k0_pay25 w) s (ix3 0 b o)
      = proj (n b) (fun i o => w (ix3 0 i o)) (fun o => s (ix2 0 o)) o := by
  pointwise [k0_pay27, k0_pay26, k0_pay25]; simp only [pay20 hn, pay24 hn]; rfl
end
end Cert.QkvIdeal.Block
-- ==== Proof.QkvArrays.lean ====
module

public import proofs.«01_k».proof.Proof.Gen.QkvIdeal.Value
public import proofs.«01_k».proof.Proof.QkvBlock
public import Idealize.ShloMosaic.Lib.Pipeline.ValueKit
public import Idealize.ShloMosaic.Lib.VecWindow

@[expose] public section

set_option maxRecDepth 16384
noncomputable section
open Idealize.ShloMosaic Idealize.ShloMosaic.TcCoe Idealize.SL.Sem
open Idealize.ShloMosaic.Pipeline (Dat)
namespace Cert.QkvIdeal.Value
open Cert.QkvIdeal Cert.QkvIdeal.Gen Cert.Rows Cert.QkvLayer Cert.QkvIdeal.Block
variable (m : (ℓ : Loc nD τ sig) → Buf (Elt Ideal) ℓ)

/-! The blocks loaded at each grid point, and what it leaves in the arrays with a block per grid point. -/

/-- The arguments, read off the argument arrays in memory. -/
def kargs (c : Dev nD) : Args where
  ids b t := m ((c : Thread nD τ).loc main_arg0) (ix2 b t)
  text b o := m ((c : Thread nD τ).loc main_arg1) (ix2 b o)
  ic b i := m ((c : Thread nD τ).loc main_arg2) (ix2 b i)
  isc b := m ((c : Thread nD τ).loc main_arg3) (ix2 b 0)
  wi t i o := m ((c : Thread nD τ).loc main_arg4) (ix3 t i o)
  si t o := m ((c : Thread nD τ).loc main_arg5) (ix2 t o)
  ac k j r := m ((c : Thread nD τ).loc main_arg6) (ix3 k j r)
  asc k j := m ((c : Thread nD τ).loc main_arg7) (ix2 k j)
  ap k r o := m ((c : Thread nD τ).loc main_arg8) (ix3 k r o)
  wq t i o := m ((c : Thread nD τ).loc main_arg9) (ix3 t i o)
  sq t o := m ((c : Thread nD τ).loc main_arg10) (ix2 t o)
  gain i := m ((c : Thread nD τ).loc main_arg11) (ix1 i)

/-- Every input window's block index at every grid point: the whole array, the point's step, or the step before. -/
theorem idx : ∀ t : Fin cfg0.N, win0_0.index t = ![0, 0] ∧ win0_1.index t = ![0, 0] ∧ win0_2.index t = ![0, 0]
    ∧ win0_3.index t = ![0, 0] ∧ win0_4.index t = ![t.val, 0, 0] ∧ win0_5.index t = ![0, 0] ∧ win0_6.index t = ![t.val - 1, 0, 0]
    ∧ win0_7.index t = ![0, 0] ∧ win0_8.index t = ![t.val - 1, 0, 0] ∧ win0_9.index t = ![t.val, 0, 0] ∧ win0_10.index t = ![0, 0]
    ∧ win0_11.index t = ![0, 0] :=
  (by decide +kernel : ∀ t : Fin grid0.N, _)

/-- The block index of each of the first three output windows at every grid point: the point's step. -/
theorem idxOut : ∀ t : Fin cfg0.N, win0_12.index t = ![t.val, 0, 0] ∧ win0_13.index t = ![t.val, 0, 0] ∧ win0_14.index t = ![t.val, 0, 0] :=
  (by decide +kernel : ∀ t : Fin grid0.N, _)

/-- The grid's coordinate at a point is the point's number, the step. -/
theorem coord : ∀ t : Fin cfg0.N, (grid0.coords t 0).val = t.val := (by decide +kernel : ∀ t : Fin grid0.N, _)

/-- The rows of scales read at a grid point are the step's. -/
theorem off : ∀ t : Fin cfg0.N, k0_off2 (grid0.coords t) = ![t.val, 0] ∧ k0_off3 (grid0.coords t) = ![t.val, 0] :=
  (by decide +kernel : ∀ t : Fin grid0.N, _)

/-- The row of the tables' scales read at a grid point after the first is the step's before. -/
theorem off1 : ∀ t : Fin cfg0.N, 1 ≤ t.val → k0_off1 (grid0.coords t) = ![t.val - 1, 0] := (by decide +kernel : ∀ t : Fin grid0.N, _)

/-- The number of the step before, as the kernel computes it. -/
theorem before : ∀ t : Fin cfg0.N, 1 ≤ t.val → Scalar.subi (BitVec.ofNat 32 t.val) 1#32 = BitVec.ofNat 32 (t.val - 1) :=
  (by decide +kernel : ∀ t : Fin grid0.N, _)

/-- The step of a grid point. -/
abbrev step (t : Fin cfg0.N) : Fin 31 := ⟨t.val, t.isLt⟩

/-- The table of the step before. -/
abbrev prev (t : Fin cfg0.N) (h : 1 ≤ t.val) : Fin 30 := ⟨t.val - 1, by have : t.val < 31 := t.isLt; omega⟩

/-- A row of an array of scales: its entries. -/
theorem ld_row {R n : ℕ} (X : Vec Ideal ⟨2, ![R, n]⟩ .f32) (p : Fin 2 → ℕ) (inb) (s : Fin R) (e : p = ![s.val, 0]) (o : Fin n) :
    View.ld X (Rect.unit (s := ⟨2, ![R, n]⟩) p ![1, n] inb) (ix2 0 o) = X (ix2 s o) := by
  subst e
  show X _ = X _
  congr 1; funext a; fin_cases a <;> apply Fin.ext <;> simp [Rect.unit, ix2]

/-- The gain, loaded as a block, is the argument's. -/
theorem gain_apply (c : Dev nD) (t : Fin cfg0.N) (i : Fin 1024) : iblk m c 11 t (ix2 0 i) = m ((c : Thread nD τ).loc main_arg11) (ix1 i) := by
  have e : iblk m c 11 t (ix2 0 i) = V m c main_v0 (ix2 0 i) := by blk_ext [iblk, idx t]
  rw [e]
  entry_read
  exact congrArg (m ((c : Thread nD τ).loc main_arg11)) (by funext a; fin_cases a; rfl)

/-- The ids, as loaded. -/
theorem read0 (c : Dev nD) (t : Fin cfg0.N) (b : Fin 40) (s : Fin 31) : iblk m c 0 t (ix2 b s) = m ((c : Thread nD τ).loc main_arg0) (ix2 b s) := by
  blk_ext [iblk, V, idx t]
/-- The text rows, as loaded. -/
theorem read1 (c : Dev nD) (t : Fin cfg0.N) (b : Fin 40) (o : Fin 1024) : iblk m c 1 t (ix2 b o) = m ((c : Thread nD τ).loc main_arg1) (ix2 b o) := by
  blk_ext [iblk, V, idx t]
/-- The input's codes, as loaded. -/
theorem read2 (c : Dev nD) (t : Fin cfg0.N) (b : Fin 40) (i : Fin 3072) : iblk m c 2 t (ix2 b i) = m ((c : Thread nD τ).loc main_arg2) (ix2 b i) := by
  blk_ext [iblk, V, idx t]
/-- The input's scales, as loaded. -/
theorem read3 (c : Dev nD) (t : Fin cfg0.N) (b : Fin 40) : iblk m c 3 t (ix2 b 0) = m ((c : Thread nD τ).loc main_arg3) (ix2 b 0) := by
  blk_ext [iblk, V, idx t]
/-- The in-projection's bytes, as loaded. -/
theorem read4 (c : Dev nD) (t : Fin cfg0.N) (i : Fin 3072) (o : Fin 1024) : iblk m c 4 t (ix3 0 i o) = m ((c : Thread nD τ).loc main_arg4) (ix3 (step t) i o) := by
  blk_ext [iblk, V, idx t]
/-- The in-projection's scales, as loaded. -/
theorem read5 (c : Dev nD) (t : Fin cfg0.N) (s : Fin 31) (o : Fin 1024) : iblk m c 5 t (ix2 s o) = m ((c : Thread nD τ).loc main_arg5) (ix2 s o) := by
  blk_ext [iblk, V, idx t]
/-- The table's codes, as loaded. -/
theorem read6 (c : Dev nD) (t : Fin cfg0.N) (h : 1 ≤ t.val) (j : Fin 2051) (r : Fin 128) :
    iblk m c 6 t (ix3 0 j r) = m ((c : Thread nD τ).loc main_arg6) (ix3 (prev t h) j r) := by
  blk_ext [iblk, V, idx t]
/-- The tables' scales, as loaded. -/
theorem read7 (c : Dev nD) (t : Fin cfg0.N) (k : Fin 30) (j : Fin 2051) : iblk m c 7 t (ix2 k j) = m ((c : Thread nD τ).loc main_arg7) (ix2 k j) := by
  blk_ext [iblk, V, idx t]
/-- The table's projection, as loaded. -/
theorem read8 (c : Dev nD) (t : Fin cfg0.N) (h : 1 ≤ t.val) (r : Fin 128) (o : Fin 1024) :
    iblk m c 8 t (ix3 0 r o) = m ((c : Thread nD τ).loc main_arg8) (ix3 (prev t h) r o) := by
  blk_ext [iblk, V, idx t]
/-- The second projection's bytes, as loaded. -/
theorem read9 (c : Dev nD) (t : Fin cfg0.N) (i : Fin 1024) (o : Fin 3072) : iblk m c 9 t (ix3 0 i o) = m ((c : Thread nD τ).loc main_arg9) (ix3 (step t) i o) := by
  blk_ext [iblk, V, idx t]
/-- The second projection's scales, as loaded. -/
theorem read10 (c : Dev nD) (t : Fin cfg0.N) (s : Fin 31) (o : Fin 3072) : iblk m c 10 t (ix2 s o) = m ((c : Thread nD τ).loc main_arg10) (ix2 s o) := by
  blk_ext [iblk, V, idx t]

/-- The text row loaded at the first grid point is what it adds. -/
theorem emb_first (c : Dev nD) (t : Fin cfg0.N) (h : t.val = 0) (b : Fin 40) (o : Fin 1024) :
    k0_pay10 (iblk m c 1 t) (ix3 0 b o) = (kargs m c).emb (step t) b o := by
  rw [pay10, read1, QkvLayer.Args.emb, dif_pos h]
  rfl

/-- The embedding computed at a later grid point, from table and scales of the step before, is what it adds. -/
theorem emb_later (c : Dev nD) (hg : (kargs m c).Good) (t : Fin cfg0.N) (h : 1 ≤ t.val) (inb) (b : Fin 40) (o : Fin 1024) :
    k0_pay14 (k0_pay3 (BitVec.ofNat 32 (grid0.coords t 0).val) (iblk m c 0 t) (iblk m c 6 t))
        (k0_pay4 (BitVec.ofNat 32 (grid0.coords t 0).val) (iblk m c 0 t)
          (View.ld (iblk m c 7 t) (Rect.unit (s := ⟨2, ![30, 2051]⟩) (k0_off1 (grid0.coords t)) ![1, 2051] inb)))
        (k0_pay6 (iblk m c 8 t)) (k0_pay8 (iblk m c 8 t)) (k0_pay9 (iblk m c 8 t)) (constant S40x1024 .f32 0x00000000#32) (ix3 0 b o)
      = (kargs m c).emb (step t) b o := by
  have hs : ∀ j, View.ld (iblk m c 7 t) (Rect.unit (s := ⟨2, ![30, 2051]⟩) (k0_off1 (grid0.coords t)) ![1, 2051] inb) (ix2 0 j)
      = (kargs m c).asc (prev t h) j := fun j => (ld_row _ _ inb (prev t h) (off1 t h) j).trans (read7 m c t _ j)
  rw [coord, pay14 (k := ⟨t.val - 1, by have : t.val < 31 := t.isLt; omega⟩) (before t h) (iblk m c 0 t) b
    (j0 := row ((kargs m c).ids b ⟨t.val - 1, by have : t.val < 31 := t.isLt; omega⟩)) ((read0 m c t b _).trans (hg.id b (prev t h))) (iblk m c 6 t)
    _ (iblk m c 8 t) (by rw [hs]; exact hg.asc _ _) (fun r o => by rw [read8 m c t h]; exact hg.ap _ _ _) o,
    QkvLayer.Args.emb, dif_neg (by show ¬t.val = 0; omega), QkvLayer.Args.audio, hs]
  simp only [read6 m c t h, read8 m c t h]
  rfl

/-- The residual input from the loaded blocks and the block that holds what is added. -/
theorem x_apply (c : Dev nD) (t : Fin cfg0.N) (inb) (v : Vec Ideal S1x40x1024 .f32)
    (hv : ∀ b o, v (ix3 0 b o) = (kargs m c).emb (step t) b o) (b : Fin 40) (o : Fin 1024) :
    k0_pay15 (iblk m c 2 t) (iblk m c 4 t) (iblk m c 3 t)
        (View.ld (iblk m c 5 t) (Rect.unit (s := ⟨2, ![31, 1024]⟩) (k0_off2 (grid0.coords t)) ![1, 1024] inb)) v (ix2 b o)
      = (kargs m c).x (step t) b o := by
  rw [pay15, ld_row _ _ inb (step t) (off t).1 o, read3, read5, hv]
  simp only [read2, read4]
  rfl

/-- The normalised rows from the residual input and the loaded gain. -/
theorem n_apply (c : Dev nD) (t : Fin cfg0.N) (inb) (v : Vec Ideal S1x40x1024 .f32)
    (hv : ∀ b o, v (ix3 0 b o) = (kargs m c).emb (step t) b o) (b : Fin 40) (i : Fin 1024) :
    k0_pay19 (k0_pay15 (iblk m c 2 t) (iblk m c 4 t) (iblk m c 3 t)
        (View.ld (iblk m c 5 t) (Rect.unit (s := ⟨2, ![31, 1024]⟩) (k0_off2 (grid0.coords t)) ![1, 1024] inb)) v)
      (k0_pay17 (iblk m c 11 t)) (k0_pay18 (iblk m c 2 t) (iblk m c 4 t) (iblk m c 3 t)
        (View.ld (iblk m c 5 t) (Rect.unit (s := ⟨2, ![31, 1024]⟩) (k0_off2 (grid0.coords t)) ![1, 1024] inb)) v)
      (Scalar.ofBits .f32 0x3727C5AC#32) (ix2 b i)
      = (kargs m c).n (step t) b i := by
  rw [pay19 (x_apply m c t inb v hv)]
  simp only [gain_apply]
  rfl

/-- The queries, keys and values from the normalised rows and the loaded weights and scales. -/
theorem qkv_apply (c : Dev nD) (t : Fin cfg0.N) (inb) (inb') (v : Vec Ideal S1x40x1024 .f32)
    (hv : ∀ b o, v (ix3 0 b o) = (kargs m c).emb (step t) b o) (b : Fin 40) (o : Fin 3072) :
    k0_pay27
      (k0_pay20 (k0_pay15 (iblk m c 2 t) (iblk m c 4 t) (iblk m c 3 t)
          (View.ld (iblk m c 5 t) (Rect.unit (s := ⟨2, ![31, 1024]⟩) (k0_off2 (grid0.coords t)) ![1, 1024] inb)) v)
        (k0_pay17 (iblk m c 11 t)) (k0_pay18 (iblk m c 2 t) (iblk m c 4 t) (iblk m c 3 t)
          (View.ld (iblk m c 5 t) (Rect.unit (s := ⟨2, ![31, 1024]⟩) (k0_off2 (grid0.coords t)) ![1, 1024] inb)) v)
        (Scalar.ofBits .f32 0x3727C5AC#32))
      (k0_pay24 (k0_pay15 (iblk m c 2 t) (iblk m c 4 t) (iblk m c 3 t)
          (View.ld (iblk m c 5 t) (Rect.unit (s := ⟨2, ![31, 1024]⟩) (k0_off2 (grid0.coords t)) ![1, 1024] inb)) v)
        (k0_pay17 (iblk m c 11 t)) (k0_pay18 (iblk m c 2 t) (iblk m c 4 t) (iblk m c 3 t)
          (View.ld (iblk m c 5 t) (Rect.unit (s := ⟨2, ![31, 1024]⟩) (k0_off2 (grid0.coords t)) ![1, 1024] inb)) v)
        (Scalar.ofBits .f32 0x3727C5AC#32))
      (k0_pay25 (iblk m c 9 t)) (View.ld (iblk m c 10 t) (Rect.unit (s := ⟨2, ![31, 3072]⟩) (k0_off3 (grid0.coords t)) ![1, 3072] inb')) (ix3 0 b o)
      = (kargs m c).qkv (step t) b o := by
  have hs : ∀ o, View.ld (iblk m c 10 t) (Rect.unit (s := ⟨2, ![31, 3072]⟩) (k0_off3 (grid0.coords t)) ![1, 3072] inb') (ix2 0 o)
      = (kargs m c).sq (step t) o := fun o => (ld_row _ _ inb' (step t) (off t).2 o).trans (read10 m c t _ o)
  rw [pay27 (n_apply m c t inb v hv)]
  simp only [hs, read9]
  rfl

set_option maxHeartbeats 1600000 in
/-- What grid point `t` leaves in its block of the array of residual inputs. -/
theorem left12 (c : Dev nD) (hg : (kargs m c).Good) (t : Fin cfg0.N) (b : Fin 40) (o : Fin 1024) :
    (outsAt0 m c t.val t.isLt).1 (ix3 0 b o) = (kargs m c).x (step t) b o := by
  have hl : t.val < 31 := t.isLt
  by_cases h0 : t.val % 31 = 0
  · rw [outsAt0_A m c t h0 (by omega)]; frame_out
    exact pay16 (x_apply m c t _ _ (emb_first m c t (by omega))) b o
  · rw [outsAt0_B m c t h0 (by omega)]; frame_out
    exact pay16 (x_apply m c t _ _ (emb_later m c hg t (by omega) _)) b o

set_option maxHeartbeats 1600000 in
/-- What grid point `t` leaves in its block of the array of queries, keys and values. -/
theorem left13 (c : Dev nD) (hg : (kargs m c).Good) (t : Fin cfg0.N) (b : Fin 40) (o : Fin 3072) :
    (outsAt0 m c t.val t.isLt).2.1 (ix3 0 b o) = (kargs m c).qkv (step t) b o := by
  have hl : t.val < 31 := t.isLt
  by_cases h0 : t.val % 31 = 0
  · rw [outsAt0_A m c t h0 (by omega)]; frame_out
    exact qkv_apply m c t _ _ _ (emb_first m c t (by omega)) b o
  · rw [outsAt0_B m c t h0 (by omega)]; frame_out
    exact qkv_apply m c t _ _ _ (emb_later m c hg t (by omega) _) b o

set_option maxHeartbeats 1600000 in
/-- What grid point `t` leaves in its block of the array of codes. -/
theorem left14 (c : Dev nD) (hg : (kargs m c).Good) (t : Fin cfg0.N) (b : Fin 40) (i : Fin 1024) :
    (outsAt0 m c t.val t.isLt).2.2.1 (ix3 0 b i) = word ((kargs m c).n (step t) b) i := by
  have hl : t.val < 31 := t.isLt
  by_cases h0 : t.val % 31 = 0
  · rw [outsAt0_A m c t h0 (by omega)]; frame_out
    exact pay22 (n_apply m c t _ _ (emb_first m c t (by omega))) b i
  · rw [outsAt0_B m c t h0 (by omega)]; frame_out
    exact pay22 (n_apply m c t _ _ (emb_later m c hg t (by omega) _)) b i

/-- After the grid the array of residual inputs holds every step's block. -/
theorem final12 (c : Dev nD) (hg : (kargs m c).Good) :
    (dats m 0 c).arrAt 12 cfg0.N = (fun y : S31x40x1024.Idx => (kargs m c).x (y 0) (y 1) (y 2)) := by
  refine (dats m 0 c).arrAt_eq_of_covers 12 _ (by decide +kernel) fun t hf y => ?_
  blk_simp; rw [after0_12]; idx_vars y
  obtain rfl : y0 = 0 := Subsingleton.elim _ _
  refine (left12 m c hg t y1 y2).trans ?_
  show (fun y : S31x40x1024.Idx => (kargs m c).x (y 0) (y 1) (y 2)) (ix3 (step t) y1 y2) = _
  exact congrArg (fun y : S31x40x1024.Idx => (kargs m c).x (y 0) (y 1) (y 2)) (by blk_ext [idxOut t])

/-- After the grid the array of queries, keys and values holds every step's block. -/
theorem final13 (c : Dev nD) (hg : (kargs m c).Good) :
    (dats m 0 c).arrAt 13 cfg0.N = (fun y : S31x40x3072.Idx => (kargs m c).qkv (y 0) (y 1) (y 2)) := by
  refine (dats m 0 c).arrAt_eq_of_covers 13 _ (by decide +kernel) fun t hf y => ?_
  blk_simp; rw [after0_13]; idx_vars y
  obtain rfl : y0 = 0 := Subsingleton.elim _ _
  refine (left13 m c hg t y1 y2).trans ?_
  show (fun y : S31x40x3072.Idx => (kargs m c).qkv (y 0) (y 1) (y 2)) (ix3 (step t) y1 y2) = _
  exact congrArg (fun y : S31x40x3072.Idx => (kargs m c).qkv (y 0) (y 1) (y 2)) (by blk_ext [idxOut t])

/-- After the grid the array of codes holds every step's block. -/
theorem final14 (c : Dev nD) (hg : (kargs m c).Good) :
    (dats m 0 c).arrAt 14 cfg0.N = (fun y : S31x40x1024.Idx => word ((kargs m c).n (y 0) (y 1)) (y 2)) := by
  refine (dats m 0 c).arrAt_eq_of_covers 14 _ (by decide +kernel) fun t hf y => ?_
  blk_simp; rw [after0_14]; idx_vars y
  obtain rfl : y0 = 0 := Subsingleton.elim _ _
  refine (left14 m c hg t y1 y2).trans ?_
  show (fun y : S31x40x1024.Idx => word ((kargs m c).n (y 0) (y 1)) (y 2)) (ix3 (step t) y1 y2) = _
  exact congrArg (fun y : S31x40x1024.Idx => word ((kargs m c).n (y 0) (y 1)) (y 2)) (by blk_ext [idxOut t])

end Cert.QkvIdeal.Value
-- ==== Proof.QkvEquation.lean ====
module

public import proofs.«01_k».proof.Defs
public import proofs.«01_k».proof.Proof.QkvRef
public import proofs.«01_k».proof.Proof.QkvArrays
public import proofs.«01_k».proof.Proof.Gen.QkvRefIdeal.Run
public import Idealize.ShloMosaic.Lib.Claim

@[expose] public section

set_option maxRecDepth 16384
noncomputable section
open Idealize.ShloMosaic Idealize.SL.Sem

/-! The arrays with a block per step that the kernel leaves are the reference's. -/

namespace Cert.QkvRefIdeal.Ref
open Cert.QkvRefIdeal Cert.QkvRefIdeal.Gen Cert.QkvRefIdeal.Read Cert.Rows Idealize.ShloMosaic.StableHlo

/-- The arguments, read off the reference's argument arrays. -/
def rargs (V0 : Valuation τ sig (Elt Ideal)) : Cert.QkvLayer.Args :=
  args (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))

variable (V0 : Valuation τ sig (Elt Ideal)) (hx : Nonneg (V0 (Proc.devRef .tc main_arg0)))
include hx

/-- The reference's array of residual inputs. -/
theorem x_array : val_main_v53 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
    = fun y : S31x40x1024.Idx => (rargs V0).x (y 0) (y 1) (y 2) := by
  funext y
  have e : y = ix3 (y 0) (y 1) (y 2) := by funext a; fin_cases a <;> rfl
  rw [e]
  exact xv53 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) hx (y 0) (y 1) (y 2)

/-- The reference's array of queries, keys and values. -/
theorem qkv_array : val_main_v91 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
    = fun y : S31x40x3072.Idx => (rargs V0).qkv (y 0) (y 1) (y 2) := by
  funext y
  have e : y = ix3 (y 0) (y 1) (y 2) := by funext a; fin_cases a <;> rfl
  rw [e]
  exact qkvv91 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) hx (y 0) (y 1) (y 2)

/-- The reference's array of codes. -/
theorem codes_array : val_main_v80 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg11))
    = fun y : S31x40x1024.Idx => word ((rargs V0).n (y 0) (y 1)) (y 2) := by
  funext y
  have e : y = ix3 (y 0) (y 1) (y 2) := by funext a; fin_cases a <;> rfl
  rw [e]
  exact wordv80 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) hx (y 0) (y 1) (y 2)
end Cert.QkvRefIdeal.Ref

namespace Cert.QkvEquation

/-- The precondition's shape relations. -/
instance preFacts : Cert.Pre_ids_and_tables.Facts := ⟨by decide, by decide, by decide⟩

/-- The mask's shape relations. -/
instance onFacts : Cert.On_step_arrays.Facts := ⟨by decide, by decide, by decide, by decide⟩

/-- A number whose absolute value is below infinity is a real number. -/
theorem finite (x : EReal) (h : Ideal.cmp .olt (max x (-x)) (Ideal.ofBits .f32 0x7F800000#32) = 1#1) : ∃ r : ℝ, x = (r : EReal) := by
  have top : Ideal.ofBits .f32 0x7F800000#32 = (⊤ : EReal) := by simp [Ideal.ofBits, Ideal.ieee]
  rw [top] at h
  induction x with
  | bot => simp [Ideal.cmp] at h
  | top => simp [Ideal.cmp] at h
  | coe r => exact ⟨r, rfl⟩

/-- A word that passes the test against zero is not negative. -/
theorem nonneg (w : BitVec 32) (h : IntOp.cmpi .sge w 0#32 = 1#1) : 0 ≤ w.toInt := by
  by_contra hn
  have : IntOp.cmpi .sge w 0#32 = 0#1 := by
    simp [IntOp.cmpi, BitVec.sle, hn]
  rw [this] at h
  exact absurd h (by decide)

/-- A word that passes the test against the number of rows is below it. -/
theorem below (w : BitVec 32) (h : IntOp.cmpi .slt w 2051#32 = 1#1) : w.toInt < 2051 := by
  by_contra hn
  have : IntOp.cmpi .slt w 2051#32 = 0#1 := by
    simp [IntOp.cmpi, BitVec.slt, hn]
  rw [this] at h
  exact absurd h (by decide)

section
variable (m : (ℓ : Loc Cert.QkvIdeal.nD Cert.QkvIdeal.τ Cert.QkvIdeal.sig) → Buf (Elt Ideal) ℓ) (hp : Cert.Pre_QkvIdeal_ids_and_tables m)
  (c : Dev Cert.QkvIdeal.nD)
include hp

/-- Under the precondition no id is negative. -/
theorem nonneg_of_pre (b : Fin 40) (t : Fin 31) : 0 ≤ ((Cert.QkvIdeal.Value.kargs m c).ids b t).toInt :=
  nonneg _ (congrFun (hp c).1 (ix2 b t))

/-- Under the precondition the ids name rows, and the tables' scales and projections are finite. -/
theorem good_of_pre : (Cert.QkvIdeal.Value.kargs m c).Good where
  id b k := Cert.QkvLayer.row_eq _ (nonneg_of_pre m hp c b _) (below _ (congrFun (hp c).2.1 (ix2 b ⟨k.val, by omega⟩)))
  asc k j := finite _ (congrFun (hp c).2.2.1 (ix2 k j))
  ap k r o := finite _ (congrFun (hp c).2.2.2 (ix3 k r o))
end

/-- The two programs' arguments are the same when the argument arrays are. -/
theorem args_eq (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) :
    Cert.QkvRefIdeal.Ref.rargs (StableHlo.launchContents m' c) = Cert.QkvIdeal.Value.kargs m c := by
  obtain ⟨h0, h1, h2, h3, h4, h5, h6, h7, h8, h9, h10, h11⟩ := h
  show Cert.QkvRefIdeal.Ref.args (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3)) (m' ((c.tc : Thread Cert.QkvRefIdeal.nD Cert.QkvRefIdeal.τ).loc Cert.QkvRefIdeal.main_arg4)) (m' ((c.tc : Thread Cert.QkvRefIdeal.nD Cert.QkvRefIdeal.τ).loc Cert.QkvRefIdeal.main_arg5)) (m' ((c.tc : Thread Cert.QkvRefIdeal.nD Cert.QkvRefIdeal.τ).loc Cert.QkvRefIdeal.main_arg6)) (m' ((c.tc : Thread Cert.QkvRefIdeal.nD Cert.QkvRefIdeal.τ).loc Cert.QkvRefIdeal.main_arg7)) (m' ((c.tc : Thread Cert.QkvRefIdeal.nD Cert.QkvRefIdeal.τ).loc Cert.QkvRefIdeal.main_arg8)) (m' ((c.tc : Thread Cert.QkvRefIdeal.nD Cert.QkvRefIdeal.τ).loc Cert.QkvRefIdeal.main_arg9)) (m' ((c.tc : Thread Cert.QkvRefIdeal.nD Cert.QkvRefIdeal.τ).loc Cert.QkvRefIdeal.main_arg10)) (m' ((c.tc : Thread Cert.QkvRefIdeal.nD Cert.QkvRefIdeal.τ).loc Cert.QkvRefIdeal.main_arg11)) = _
  rw [h0, h1, h2, h3, h4, h5, h6, h7, h8, h9, h10, h11]
  rfl

set_option maxHeartbeats 1600000 in
/-- From the same arguments, with ids that name rows and finite tables, the kernel's run and the reference's run end with the
same residual inputs, queries, keys and values, and codes. -/
theorem algebraic : Cert.algebraic_QkvIdeal_QkvRefIdeal_on_step_arrays_pre_ids_and_tables := by
  intro m g m' g' hp hagree
  refine ⟨fun c => (Cert.QkvIdeal.Gen.dats m 0 c).arrAt 12 Cert.QkvIdeal.cfg0.N, fun c => (Cert.QkvIdeal.Gen.dats m 0 c).arrAt 13 Cert.QkvIdeal.cfg0.N,
    fun c => (Cert.QkvIdeal.Gen.dats m 0 c).arrAt 14 Cert.QkvIdeal.cfg0.N, fun c => (Cert.QkvIdeal.Gen.dats m 0 c).arrAt 15 Cert.QkvIdeal.cfg0.N,
    fun c => (Cert.QkvIdeal.Gen.dats m 0 c).arrAt 16 Cert.QkvIdeal.cfg0.N, fun c => (Cert.QkvIdeal.Gen.dats m 0 c).arrAt 17 Cert.QkvIdeal.cfg0.N,
    fun c => (Cert.QkvIdeal.Gen.dats m 0 c).arrAt 18 Cert.QkvIdeal.cfg0.N, fun c => (Cert.QkvIdeal.Gen.dats m 0 c).arrAt 19 Cert.QkvIdeal.cfg0.N, ?_, ?_⟩
  · refine (θ_run Cert.QkvIdeal.defs _ _).mono (fun r h c => ?_) (Cert.QkvIdeal.Value.run_blocks m g)
    obtain ⟨e0, e1, e2, e3, e4, e5, e6, e7, ea⟩ := h c
    exact ⟨fun i _ => congrFun e0 i, fun i _ => congrFun e1 i, fun i _ => congrFun e2 i, fun i _ => congrFun e3 i, fun i _ => congrFun e4 i,
      fun i _ => congrFun e5 i, fun i _ => congrFun e6 i, fun i _ => congrFun e7 i, ea⟩
  · refine (θ_run Cert.QkvRefIdeal.defs _ _).mono (fun r h c => ?_) (Cert.QkvRefIdeal.Value.run m' g')
    obtain ⟨e0, e1, e2, e3, e4, e5, e6, e7, ea⟩ := h c
    have hg := good_of_pre m hp c
    have he := args_eq m m' c (hagree c)
    have hx : Cert.QkvRefIdeal.Ref.Nonneg (StableHlo.launchContents m' c (Proc.devRef .tc Cert.QkvRefIdeal.main_arg0)) := fun b k => by
      have := nonneg_of_pre m hp c b ⟨k.val, by omega⟩
      rw [← he] at this
      exact this
    refine ⟨fun i _ => congrFun (e0.trans ((Cert.QkvRefIdeal.Read.val_main_v53_eq _).trans ((Cert.QkvRefIdeal.Ref.x_array _ hx).trans ?_))) i,
      fun i _ => congrFun (e1.trans ((Cert.QkvRefIdeal.Read.val_main_v91_eq _).trans ((Cert.QkvRefIdeal.Ref.qkv_array _ hx).trans ?_))) i,
      fun i _ => congrFun (e2.trans ((Cert.QkvRefIdeal.Read.val_main_v80_eq _).trans ((Cert.QkvRefIdeal.Ref.codes_array _ hx).trans ?_))) i,
      fun i hi => absurd hi (by decide : ¬((0#1 : BitVec 1) = 1#1)), fun i hi => absurd hi (by decide : ¬((0#1 : BitVec 1) = 1#1)),
      fun i hi => absurd hi (by decide : ¬((0#1 : BitVec 1) = 1#1)), fun i hi => absurd hi (by decide : ¬((0#1 : BitVec 1) = 1#1)),
      fun i hi => absurd hi (by decide : ¬((0#1 : BitVec 1) = 1#1)), ea⟩
    · rw [he]; exact (Cert.QkvIdeal.Value.final12 m c hg).symm
    · rw [he]; exact (Cert.QkvIdeal.Value.final13 m c hg).symm
    · rw [he]; exact (Cert.QkvIdeal.Value.final14 m c hg).symm

end Cert.QkvEquation
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Equation
public import proofs.«01_k».proof.Proof.AttnEquation
public import proofs.«01_k».proof.Proof.QkvEquation
public import Idealize.ShloMosaic.Adequacy
public import Idealize.ShloMosaic.Init

@[expose] public section

noncomputable section

namespace Cert.Proof

open Idealize.ShloMosaic Idealize.SL.Sem Cert.Mlp

/-- All fifteen claims, five for each of three calls: the one that makes queries, keys and values, the attention, and the
    output projection with the feed-forward layers and the head. The kernel, its ideal reading and the reference each end
    with their arguments unchanged and every semaphore counter at zero; the ideal reading is the kernel's own text; and the
    ideal kernel and the reference compute the same results of the same arguments. -/
theorem claim : Cert.Claim := ⟨Cert.Mlp.Gen.facts, Cert.MlpIdeal.Gen.facts, Cert.MlpRefIdeal.Gen.facts,
  Cert.Attn.Gen.facts, Cert.AttnIdeal.Gen.facts, Cert.AttnRefIdeal.Gen.facts,
  Cert.Qkv.Gen.facts, Cert.QkvIdeal.Gen.facts, Cert.QkvRefIdeal.Gen.facts, Cert.QkvEquation.preFacts, Cert.QkvEquation.onFacts, by
  have qkvRef : Cert.quiescent_QkvRefIdeal (hQkvRefIdeal := Cert.QkvRefIdeal.Gen.facts) := fun m ρ _ =>
    (θ_run Cert.QkvRefIdeal.defs _ _).mono (fun r h => ⟨fun c => (h c).2.2.2.2.2.2.2.2,
      Idealize.ShloMosaic.sem_eq_zero_of_no_sems (by decide) r.2⟩) (Cert.QkvRefIdeal.Value.run m ρ)
  exact ⟨fun m ρ _ => Cert.Mlp.Gen.frame m ρ, fun m ρ _ => Cert.MlpIdeal.Gen.frame m ρ,
    fun m ρ _ => (θ_run Cert.MlpRefIdeal.defs _ _).mono (fun r h => ⟨fun c => (h c).2.2.2.2.2.2.2.2.2.2.2.2,
      Idealize.ShloMosaic.sem_eq_zero_of_no_sems (by decide) r.2⟩) (Cert.MlpRefIdeal.Value.run m ρ),
    fun m ρ _ => Cert.Attn.Gen.frame m ρ, fun m ρ _ => Cert.AttnIdeal.Gen.frame m ρ,
    fun m ρ _ => (θ_run Cert.AttnRefIdeal.defs _ _).mono (fun r h => ⟨fun c => (h c).2,
      Idealize.ShloMosaic.sem_eq_zero_of_no_sems (by decide) r.2⟩) (Cert.AttnRefIdeal.Value.run m ρ),
    fun m ρ _ => Cert.Qkv.Gen.frame m ρ, fun m ρ _ => Cert.QkvIdeal.Gen.frame m ρ, fun m ρ _ => Cert.QkvIdeal.Gen.frame m ρ,
    qkvRef, fun m ρ _ => qkvRef m ρ trivial,
    trivial, Cert.Equation.algebraic, trivial, Cert.AttnEquation.algebraic, trivial, Cert.QkvEquation.algebraic⟩⟩

end Cert.Proof

end
